-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1 : Shape := ⟨1, ![1]⟩
abbrev S1048576x2 : Shape := ⟨2, ![1048576, 2]⟩
abbrev S1048576 : Shape := ⟨1, ![1048576]⟩
abbrev S8192x128 : Shape := ⟨2, ![8192, 128]⟩
abbrev S8192x128x2 : Shape := ⟨3, ![8192, 128, 2]⟩
abbrev S8192x2x128 : Shape := ⟨3, ![8192, 2, 128]⟩
abbrev S16384x128 : Shape := ⟨2, ![16384, 128]⟩
abbrev S2x64x128 : Shape := ⟨3, ![2, 64, 128]⟩
abbrev S2x128x128 : Shape := ⟨3, ![2, 128, 128]⟩
abbrev S64x128 : Shape := ⟨2, ![64, 128]⟩
abbrev S2 : Shape := ⟨1, ![2]⟩
abbrev S16 : Shape := ⟨1, ![16]⟩
abbrev S1x16 : Shape := ⟨2, ![1, 16]⟩
abbrev S1x64x128 : Shape := ⟨3, ![1, 64, 128]⟩
abbrev S64x1x128 : Shape := ⟨3, ![64, 1, 128]⟩
abbrev S_ : Shape := ⟨0, ![]⟩
abbrev S1x128x128 : Shape := ⟨3, ![1, 128, 128]⟩
abbrev S128x128 : Shape := ⟨2, ![128, 128]⟩
abbrev S256x128 : Shape := ⟨2, ![256, 128]⟩

abbrev nBuf : Table → Nat
  | .hbm => 19
  | .local .tc .vmem => 2
  | .local .scVector .vmem => 4
  | _ => 0

abbrev bufTy : (tb : Table) → Fin (nBuf tb) → BufTy
  | .hbm, ⟨0, _⟩ => ⟨S1, .f32⟩
  | .hbm, ⟨1, _⟩ => ⟨S1048576x2, .f32⟩
  | .hbm, ⟨2, _⟩ => ⟨S1048576x2, .f32⟩
  | .hbm, ⟨3, _⟩ => ⟨S1048576, .f32⟩
  | .hbm, ⟨4, _⟩ => ⟨S8192x128, .f32⟩
  | .hbm, ⟨5, _⟩ => ⟨S8192x128x2, .f32⟩
  | .hbm, ⟨6, _⟩ => ⟨S8192x2x128, .f32⟩
  | .hbm, ⟨7, _⟩ => ⟨S8192x128x2, .f32⟩
  | .hbm, ⟨8, _⟩ => ⟨S8192x2x128, .f32⟩
  | .hbm, ⟨9, _⟩ => ⟨S16384x128, .f32⟩
  | .hbm, ⟨10, _⟩ => ⟨S16384x128, .f32⟩
  | .hbm, ⟨11, _⟩ => ⟨S8192x2x128, .f32⟩
  | .hbm, ⟨12, _⟩ => ⟨S8192x128, .f32⟩
  | .hbm, ⟨13, _⟩ => ⟨S8192x2x128, .f32⟩
  | .hbm, ⟨14, _⟩ => ⟨S8192x128x2, .f32⟩
  | .hbm, ⟨15, _⟩ => ⟨S1048576x2, .f32⟩
  | .hbm, ⟨16, _⟩ => ⟨S8192x128x2, .f32⟩
  | .hbm, ⟨17, _⟩ => ⟨S1048576x2, .f32⟩
  | .hbm, ⟨18, _⟩ => ⟨S1048576, .f32⟩
  | .local .tc .vmem, ⟨0, _⟩ => ⟨S256x128, .f32⟩
  | .local .tc .vmem, ⟨1, _⟩ => ⟨S256x128, .f32⟩
  | .local .scVector .vmem, ⟨0, _⟩ => ⟨S2x64x128, .f32⟩
  | .local .scVector .vmem, ⟨1, _⟩ => ⟨S2x128x128, .f32⟩
  | .local .scVector .vmem, ⟨2, _⟩ => ⟨S2x64x128, .f32⟩
  | .local .scVector .vmem, ⟨3, _⟩ => ⟨S64x128, .f32⟩
  | _, _ => ⟨S1, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v2_scv : Ref sig .scVector := ⟨.hbm, 6, rfl⟩
abbrev main_v5_scv : Ref sig .scVector := ⟨.hbm, 9, rfl⟩
abbrev main_v0_scv : Ref sig .scVector := ⟨.hbm, 4, rfl⟩
abbrev main_v6_0_scv : Ref sig .scVector := ⟨.hbm, 10, rfl⟩
abbrev main_v6_1_scv : Ref sig .scVector := ⟨.hbm, 11, rfl⟩
abbrev cc1_stg0_0 : Ref sig .tc := ⟨.vmem, 0, rfl⟩
abbrev cc1_stg0_1 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 12
abbrev cc1_sem0_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c512_i32 : BitVec 32 := 512#32
  let v5 : BitVec 32 := Scalar.addi c0_i32 c512_i32
  let c1_i32 : BitVec 32 := 1#32
  ⟨c0_i32, v5, c1_i32⟩
def k0_off1 (k0_t1 : Fin k0_t1_loop.trips) : Fin 2 → Nat :=
  let c0_i32_420 : BitVec 32 := 0#32
  let c0_i32 : BitVec 32 := 0#32
  let c1_i32 : BitVec 32 := 1#32
  let arg17 : BitVec 32 := Scf.iv c0_i32 c1_i32 k0_t1
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v464 : Index := Scalar.indexCast v452
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v465 : Index := Scalar.indexCast v463
  ![v464.toNat, v465.toNat]
def k0_off2 (i : grid0.Coords) (c0_i32_3 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v6 : BitVec 32 := Scalar.muli v1 c256_i32
  let v7 : BitVec 32 := Scalar.addi v6 c0_i32_3
  let c1_i32_4 : BitVec 32 := 1#32
  let c0_i32_9 : BitVec 32 := 0#32
  ![v7.toNat, 1, 0]
def k0_off3 (i : grid0.Coords) (c0_i32_3 : BitVec 32) : Fin 2 → Nat :=
  let c2_i32_13 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v6 : BitVec 32 := Scalar.muli v1 c256_i32
  let v7 : BitVec 32 := Scalar.addi v6 c0_i32_3
  let v18 : BitVec 32 := Scalar.muli c2_i32_13 v7
  let c0_i32_18 : BitVec 32 := 0#32
  ![v18.toNat, 0]
def k0_off4 (i : grid0.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v6 : BitVec 32 := Scalar.muli v1 c256_i32
  let v7 : BitVec 32 := Scalar.addi v6 c0_i32_3
  let c0_i32_26 : BitVec 32 := 0#32
  ![v7.toNat, 0]
@[reducible] def k0_t2_loop : Scf.Loop 32 :=
  let c0_i32_58 : BitVec 32 := 0#32
  let c512_i32_59 : BitVec 32 := 512#32
  let v61 : BitVec 32 := Scalar.addi c0_i32_58 c512_i32_59
  let c1_i32_60 : BitVec 32 := 1#32
  ⟨c0_i32_58, v61, c1_i32_60⟩
def k0_off5 (k0_t2 : Fin k0_t2_loop.trips) : Fin 2 → Nat :=
  let c0_i32_420 : BitVec 32 := 0#32
  let c0_i32_58 : BitVec 32 := 0#32
  let c1_i32_60 : BitVec 32 := 1#32
  let arg17 : BitVec 32 := Scf.iv c0_i32_58 c1_i32_60 k0_t2
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v466 : Index := Scalar.indexCast v452
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v467 : Index := Scalar.indexCast v463
  ![v466.toNat, v467.toNat]
def k0_off6 (k0_t2 : Fin k0_t2_loop.trips) : Fin 2 → Nat :=
  let c2_i32_437 : BitVec 32 := 2#32
  let c0_i32_420 : BitVec 32 := 0#32
  let c0_i32_58 : BitVec 32 := 0#32
  let c1_i32_60 : BitVec 32 := 1#32
  let arg17 : BitVec 32 := Scf.iv c0_i32_58 c1_i32_60 k0_t2
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v476 : BitVec 32 := Scalar.muli c2_i32_437 v452
  let v479 : Index := Scalar.indexCast v476
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v480 : Index := Scalar.indexCast v463
  ![v479.toNat, v480.toNat]
def k0_off7 (k0_t2 : Fin k0_t2_loop.trips) : Fin 2 → Nat :=
  let c2_i32_440 : BitVec 32 := 2#32
  let c0_i32_420 : BitVec 32 := 0#32
  let c0_i32_58 : BitVec 32 := 0#32
  let c1_i32_60 : BitVec 32 := 1#32
  let arg17 : BitVec 32 := Scf.iv c0_i32_58 c1_i32_60 k0_t2
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v482 : BitVec 32 := Scalar.muli c2_i32_440 v452
  let c1_i32_441 : BitVec 32 := 1#32
  let v483 : BitVec 32 := Scalar.addi v482 c1_i32_441
  let v486 : Index := Scalar.indexCast v483
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v487 : Index := Scalar.indexCast v463
  ![v486.toNat, v487.toNat]
def k0_off8 (i : grid0.Coords) (c0_i32_63 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32_62 : BitVec 32 := 256#32
  let v62 : BitVec 32 := Scalar.muli v1 c256_i32_62
  let v63 : BitVec 32 := Scalar.addi v62 c0_i32_63
  let c0_i32_82 : BitVec 32 := 0#32
  let c0_i32_84 : BitVec 32 := 0#32
  ![v63.toNat, 0, 0]
@[reducible] def k0_t3_loop : Scf.Loop 32 :=
  let c0_i32_141 : BitVec 32 := 0#32
  let c512_i32_142 : BitVec 32 := 512#32
  let v144 : BitVec 32 := Scalar.addi c0_i32_141 c512_i32_142
  let c1_i32_143 : BitVec 32 := 1#32
  ⟨c0_i32_141, v144, c1_i32_143⟩
def k0_off9 (k0_t3 : Fin k0_t3_loop.trips) : Fin 2 → Nat :=
  let c0_i32_420 : BitVec 32 := 0#32
  let c0_i32_141 : BitVec 32 := 0#32
  let c1_i32_143 : BitVec 32 := 1#32
  let arg17 : BitVec 32 := Scf.iv c0_i32_141 c1_i32_143 k0_t3
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v466 : Index := Scalar.indexCast v452
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v467 : Index := Scalar.indexCast v463
  ![v466.toNat, v467.toNat]
def k0_off10 (k0_t3 : Fin k0_t3_loop.trips) : Fin 2 → Nat :=
  let c2_i32_437 : BitVec 32 := 2#32
  let c0_i32_420 : BitVec 32 := 0#32
  let c0_i32_141 : BitVec 32 := 0#32
  let c1_i32_143 : BitVec 32 := 1#32
  let arg17 : BitVec 32 := Scf.iv c0_i32_141 c1_i32_143 k0_t3
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v476 : BitVec 32 := Scalar.muli c2_i32_437 v452
  let v479 : Index := Scalar.indexCast v476
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v480 : Index := Scalar.indexCast v463
  ![v479.toNat, v480.toNat]
def k0_off11 (k0_t3 : Fin k0_t3_loop.trips) : Fin 2 → Nat :=
  let c2_i32_440 : BitVec 32 := 2#32
  let c0_i32_420 : BitVec 32 := 0#32
  let c0_i32_141 : BitVec 32 := 0#32
  let c1_i32_143 : BitVec 32 := 1#32
  let arg17 : BitVec 32 := Scf.iv c0_i32_141 c1_i32_143 k0_t3
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v482 : BitVec 32 := Scalar.muli c2_i32_440 v452
  let c1_i32_441 : BitVec 32 := 1#32
  let v483 : BitVec 32 := Scalar.addi v482 c1_i32_441
  let v486 : Index := Scalar.indexCast v483
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v487 : Index := Scalar.indexCast v463
  ![v486.toNat, v487.toNat]
@[reducible] def k0_t4_loop : Scf.Loop 32 :=
  let c0_i32_245 : BitVec 32 := 0#32
  let c512_i32_246 : BitVec 32 := 512#32
  let v251 : BitVec 32 := Scalar.addi c0_i32_245 c512_i32_246
  let c1_i32_247 : BitVec 32 := 1#32
  ⟨c0_i32_245, v251, c1_i32_247⟩
def k0_off12 (k0_t4 : Fin k0_t4_loop.trips) : Fin 2 → Nat :=
  let c0_i32_420 : BitVec 32 := 0#32
  let c0_i32_245 : BitVec 32 := 0#32
  let c1_i32_247 : BitVec 32 := 1#32
  let arg17 : BitVec 32 := Scf.iv c0_i32_245 c1_i32_247 k0_t4
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v466 : Index := Scalar.indexCast v452
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v467 : Index := Scalar.indexCast v463
  ![v466.toNat, v467.toNat]
def k0_off13 (k0_t4 : Fin k0_t4_loop.trips) : Fin 2 → Nat :=
  let c2_i32_437 : BitVec 32 := 2#32
  let c0_i32_420 : BitVec 32 := 0#32
  let c0_i32_245 : BitVec 32 := 0#32
  let c1_i32_247 : BitVec 32 := 1#32
  let arg17 : BitVec 32 := Scf.iv c0_i32_245 c1_i32_247 k0_t4
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v476 : BitVec 32 := Scalar.muli c2_i32_437 v452
  let v479 : Index := Scalar.indexCast v476
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v480 : Index := Scalar.indexCast v463
  ![v479.toNat, v480.toNat]
def k0_off14 (k0_t4 : Fin k0_t4_loop.trips) : Fin 2 → Nat :=
  let c2_i32_440 : BitVec 32 := 2#32
  let c0_i32_420 : BitVec 32 := 0#32
  let c0_i32_245 : BitVec 32 := 0#32
  let c1_i32_247 : BitVec 32 := 1#32
  let arg17 : BitVec 32 := Scf.iv c0_i32_245 c1_i32_247 k0_t4
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v482 : BitVec 32 := Scalar.muli c2_i32_440 v452
  let c1_i32_441 : BitVec 32 := 1#32
  let v483 : BitVec 32 := Scalar.addi v482 c1_i32_441
  let v486 : Index := Scalar.indexCast v483
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v487 : Index := Scalar.indexCast v463
  ![v486.toNat, v487.toNat]
@[reducible] def k0_t5_loop : Scf.Loop 32 :=
  let c0_i32_349 : BitVec 32 := 0#32
  let c512_i32_350 : BitVec 32 := 512#32
  let v358 : BitVec 32 := Scalar.addi c0_i32_349 c512_i32_350
  let c1_i32_351 : BitVec 32 := 1#32
  ⟨c0_i32_349, v358, c1_i32_351⟩
def k0_off15 (k0_t5 : Fin k0_t5_loop.trips) : Fin 2 → Nat :=
  let c0_i32_420 : BitVec 32 := 0#32
  let c0_i32_349 : BitVec 32 := 0#32
  let c1_i32_351 : BitVec 32 := 1#32
  let arg17 : BitVec 32 := Scf.iv c0_i32_349 c1_i32_351 k0_t5
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v466 : Index := Scalar.indexCast v452
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v467 : Index := Scalar.indexCast v463
  ![v466.toNat, v467.toNat]
def k0_off16 (k0_t5 : Fin k0_t5_loop.trips) : Fin 2 → Nat :=
  let c2_i32_437 : BitVec 32 := 2#32
  let c0_i32_420 : BitVec 32 := 0#32
  let c0_i32_349 : BitVec 32 := 0#32
  let c1_i32_351 : BitVec 32 := 1#32
  let arg17 : BitVec 32 := Scf.iv c0_i32_349 c1_i32_351 k0_t5
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v476 : BitVec 32 := Scalar.muli c2_i32_437 v452
  let v479 : Index := Scalar.indexCast v476
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v480 : Index := Scalar.indexCast v463
  ![v479.toNat, v480.toNat]
def k0_off17 (k0_t5 : Fin k0_t5_loop.trips) : Fin 2 → Nat :=
  let c2_i32_440 : BitVec 32 := 2#32
  let c0_i32_420 : BitVec 32 := 0#32
  let c0_i32_349 : BitVec 32 := 0#32
  let c1_i32_351 : BitVec 32 := 1#32
  let arg17 : BitVec 32 := Scf.iv c0_i32_349 c1_i32_351 k0_t5
  let c1_i32_419 : BitVec 32 := 1#32
  let v434 : BitVec 32 := Scalar.muli arg17 c1_i32_419
  let v435 : BitVec 32 := Scalar.addi c0_i32_420 v434
  let c0_i32_421 : BitVec 32 := 0#32
  let v437 : BitVec 1 := Scalar.cmpi .sgt v435 c0_i32_421
  let v438 : BitVec 32 := Scalar.extui v437
  let c0_i32_422 : BitVec 32 := 0#32
  let v439 : BitVec 1 := Scalar.cmpi .slt v435 c0_i32_422
  let v440 : BitVec 32 := Scalar.extui v439
  let v441 : BitVec 32 := Scalar.subi v438 v440
  let c8_i32 : BitVec 32 := 8#32
  let c0_i32_423 : BitVec 32 := 0#32
  let v442 : BitVec 1 := Scalar.cmpi .sgt c8_i32 c0_i32_423
  let v443 : BitVec 32 := Scalar.extui v442
  let c0_i32_424 : BitVec 32 := 0#32
  let v444 : BitVec 1 := Scalar.cmpi .slt c8_i32 c0_i32_424
  let v445 : BitVec 32 := Scalar.extui v444
  let v446 : BitVec 32 := Scalar.subi v443 v445
  let v447 : BitVec 1 := Scalar.cmpi .ne v441 v446
  let v448 : BitVec 32 := Scalar.remsi v435 c8_i32
  let c0_i32_425 : BitVec 32 := 0#32
  let v449 : BitVec 1 := Scalar.cmpi .ne v448 c0_i32_425
  let v450 : BitVec 1 := Scalar.andi v447 v449
  let v436 : BitVec 32 := Scalar.divsi v435 c8_i32
  let c1_i32_426 : BitVec 32 := 1#32
  let v451 : BitVec 32 := Scalar.subi v436 c1_i32_426
  let v452 : BitVec 32 := Scalar.select v450 v451 v436
  let v482 : BitVec 32 := Scalar.muli c2_i32_440 v452
  let c1_i32_441 : BitVec 32 := 1#32
  let v483 : BitVec 32 := Scalar.addi v482 c1_i32_441
  let v486 : Index := Scalar.indexCast v483
  let c8_i32_427 : BitVec 32 := 8#32
  let c0_i32_428 : BitVec 32 := 0#32
  let v453 : BitVec 1 := Scalar.cmpi .eq c8_i32_427 c0_i32_428
  let c1_i32_429 : BitVec 32 := 1#32
  let v454 : BitVec 32 := Scalar.select v453 c1_i32_429 c8_i32_427
  let v455 : BitVec 32 := Scalar.remsi v435 v454
  let c0_i32_431 : BitVec 32 := 0#32
  let v457 : BitVec 1 := Scalar.cmpi .slt v455 c0_i32_431
  let c0_i32_432 : BitVec 32 := 0#32
  let v458 : BitVec 1 := Scalar.cmpi .slt v454 c0_i32_432
  let v459 : BitVec 1 := Scalar.xori v457 v458
  let c0_i32_430 : BitVec 32 := 0#32
  let v456 : BitVec 1 := Scalar.cmpi .ne v455 c0_i32_430
  let v460 : BitVec 1 := Scalar.andi v459 v456
  let v461 : BitVec 32 := Scalar.addi v455 v454
  let v462 : BitVec 32 := Scalar.select v460 v461 v455
  let c16_i32 : BitVec 32 := 16#32
  let v463 : BitVec 32 := Scalar.muli v462 c16_i32
  let v487 : Index := Scalar.indexCast v463
  ![v486.toNat, v487.toNat]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1 : Shape := ⟨1, ![1]⟩
abbrev S1048576x2 : Shape := ⟨2, ![1048576, 2]⟩
abbrev S1048576 : Shape := ⟨1, ![1048576]⟩
abbrev S_ : Shape := ⟨0, ![]⟩
abbrev S1048576x1 : Shape := ⟨2, ![1048576, 1]⟩

abbrev nBuf : Space → Nat
  | .hbm => 31
  | .vmem => 0
  | .smem => 0
  | _ => 0

abbrev bufTy : (tb : Table) → Fin (tcTables nBuf tb) → BufTy
  | .hbm, ⟨0, _⟩ => ⟨S1, .f32⟩
  | .hbm, ⟨1, _⟩ => ⟨S1048576x2, .f32⟩
  | .hbm, ⟨2, _⟩ => ⟨S1048576x2, .f32⟩
  | .hbm, ⟨3, _⟩ => ⟨S1048576, .f32⟩
  | .hbm, ⟨4, _⟩ => ⟨S_, .f32⟩
  | .hbm, ⟨5, _⟩ => ⟨S1048576x2, .f32⟩
  | .hbm, ⟨6, _⟩ => ⟨S_, .i32⟩
  | .hbm, ⟨7, _⟩ => ⟨S1, .i32⟩
  | .hbm, ⟨8, _⟩ => ⟨S_, .f32⟩
  | .hbm, ⟨9, _⟩ => ⟨S1048576, .f32⟩
  | .hbm, ⟨10, _⟩ => ⟨S1048576x2, .f32⟩
  | .hbm, ⟨11, _⟩ => ⟨S1048576x1, .f32⟩
  | .hbm, ⟨12, _⟩ => ⟨S1048576, .f32⟩
  | .hbm, ⟨13, _⟩ => ⟨S_, .f32⟩
  | .hbm, ⟨14, _⟩ => ⟨S1048576, .f32⟩
  | .hbm, ⟨15, _⟩ => ⟨S1048576, .f32⟩
  | .hbm, ⟨16, _⟩ => ⟨S1048576, .i1⟩
  | .hbm, ⟨17, _⟩ => ⟨S1048576x1, .i1⟩
  | .hbm, ⟨18, _⟩ => ⟨S_, .f32⟩
  | .hbm, ⟨19, _⟩ => ⟨S_, .f32⟩
  | .hbm, ⟨20, _⟩ => ⟨S1048576x2, .i1⟩
  | .hbm, ⟨21, _⟩ => ⟨S1048576x2, .f32⟩
  | .hbm, ⟨22, _⟩ => ⟨S1048576x2, .f32⟩
  | .hbm, ⟨23, _⟩ => ⟨S1048576x1, .i1⟩
  | .hbm, ⟨24, _⟩ => ⟨S_, .f32⟩
  | .hbm, ⟨25, _⟩ => ⟨S_, .f32⟩
  | .hbm, ⟨26, _⟩ => ⟨S1048576x2, .i1⟩
  | .hbm, ⟨27, _⟩ => ⟨S1048576x2, .f32⟩
  | .hbm, ⟨28, _⟩ => ⟨S1048576x2, .f32⟩
  | .hbm, ⟨29, _⟩ => ⟨S_, .f32⟩
  | .hbm, ⟨30, _⟩ => ⟨S1048576, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v12 : Ref sig .tc := ⟨.hbm, 28, rfl⟩
abbrev main_cst_4 : Ref sig .tc := ⟨.hbm, 29, rfl⟩
abbrev main_v13 : Ref sig .tc := ⟨.hbm, 30, rfl⟩

abbrev nD : Nat := 1
abbrev τ : Topo := Topo.v7x

variable {F : FTy → Type} [FloatOps F]
-- ==== Proof.Setup.lean ====
/-
  The setting of the certificate: the printed program as the SparseCore launch theorem reads it, the ghost
  state the proof uses (the launch handshakes, the TensorCore pipeline's rounds and the counters of the tiles' own
  copies), and the arrays the SparseCore call reads and writes.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Fall

open Cert.KernelIdeal Cert.KernelIdeal.Gen
open Idealize.ShloMosaic
open Idealize.ShloMosaic.SparseCore (S V)
open Idealize.ShloMosaic.Rounds
open Idealize.ShloMosaic.SparseCore.Cfg (HIx Pay)
open Idealize.SL Idealize.SL.RA Idealize.SL.BI
open scoped Idealize.SL.BI
open Idealize.SL.BI.BIBase Idealize.SL.Sem

variable {F : FTy → Type}

/-- The labels of the program below the SparseCore layer: the kernels' and the one TensorCore pipeline's. -/
abbrev ΛP : Labels := Pipeline.Sig Λ₀ (Fin 1) fun p => (pcfgs (F := F) p).Adm
/-- The SparseCore call of the program. -/
abbrev K : SparseCore.Cfg τ sig (ΛP (F := F)) 1 := sc (F := F)
/-- The body table below the SparseCore layer. -/
abbrev D [FloatOps F] : Defs nD τ sig (Elt F) (ΛP (F := F)) := Pipeline.defs pcfgs defs₀
/-- The kernels' loops need no variant. -/
abbrev 𝒱₀ : Variants := Variants.none
/-- The same, lifted over the pipeline. -/
abbrev 𝒱 : Variants := 𝒱₀.lift
/-- The variant the tiles start from. -/
abbrev v₀ : 𝒱.V := Sum.inl none

/-- The side conditions of the SparseCore launch, all decided on the printed tables. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Ghost state -/

/-- The handshakes' rounds. -/
abbrev UH : Type := URounds (GSem nD τ sig) ℕ
/-- The pipeline's rounds. -/
abbrev UP : Type := URounds (GSem nD τ sig) Unit
/-- All of it: handshakes, pipeline, counters of local copies. -/
abbrev UU : Type := UH × (UP × Counters)

local notation "𝕄" => MT nD τ sig (HIx 1) (Elt F) ℕ UU ℕ

/-- Where the handshakes' rounds sit. -/
abbrev EH : Emb UH (MT nD τ sig (HIx 1) (Elt F) ℕ UU ℕ) := embL

/-! ## The arrays of the SparseCore call -/

/-- The positions, blocked by 128 points with the coordinate outside the lanes. -/
abbrev posLoc (d : Dev nD) : Loc nD τ sig := (SparseCore.T d).loc main_v2
/-- The velocities, one row of 128 lanes per block and coordinate. -/
abbrev velLoc (d : Dev nD) : Loc nD τ sig := (SparseCore.T d).loc main_v5
/-- The diameters, one row per block. -/
abbrev diaLoc (d : Dev nD) : Loc nD τ sig := (SparseCore.T d).loc main_v0
/-- The derivative of the positions (written). -/
abbrev dposLoc (d : Dev nD) : Loc nD τ sig := (SparseCore.T d).loc main_v6_0
/-- The derivative of the velocities (written). -/
abbrev dvelLoc (d : Dev nD) : Loc nD τ sig := (SparseCore.T d).loc main_v6_1

end Cert.Proof.Fall

end
-- ==== Proof.Chunk.lean ====
/-
  One chunk of a tile's work, in its scratch: 512 trips, each masking sixteen points.  The trip is written once over
  any three slots, and its effect is stated through what the slots read.
-/
module

public import proofs.«01_k».proof.Proof.Setup

@[expose] public section

noncomputable section

namespace Cert.Proof.Fall

open Cert.KernelIdeal Cert.KernelIdeal.Gen
open Idealize.ShloMosaic Idealize.ShloMosaic.Tactic
open Idealize.ShloMosaic.SparseCore (S V)
open Idealize.ShloMosaic.SparseCore.Cfg (HIx Pay)
open Idealize.SL Idealize.SL.RA Idealize.SL.BI Idealize.SL.ProofMode
open scoped Idealize.SL.BI
open Idealize.SL.BI.BIBase Idealize.SL.Sem

variable {F : FTy → Type} [FloatOps F]

local notation "𝕄" => MT nD τ sig (HIx 1) (Elt F) ℕ UU ℕ

/-- One trip over sixteen lanes at row offsets `o` (position, diameter), `oa`, `ob` (the two velocity rows). -/
def chunkStep {c : Fin τ.nSC} {s : Fin τ.nSub} (Y : Memref sig .scVector .vmem S64x128 .f32) (Vm : Memref sig .scVector .vmem S128x128 .f32)
    (Dm : Memref sig .scVector .vmem S64x128 .f32) (o oa ob : Fin 2 → Nat)
    (ho : ∀ a, o a + S1x16.size a ≤ S64x128.size a) (ha : ∀ a, oa a + S1x16.size a ≤ S128x128.size a)
    (hb : ∀ a, ob a + S1x16.size a ≤ S128x128.size a) : Prog (TpuEff nD τ sig (Elt F) Λ₀ (.scVector c s)) Unit := do
  let y : Vec F S1x16 .f32 ← Prog.lift (.load Y (Rect.unit (s := S64x128) o S1x16.size ho).toLoadRect (View.loadsAt_vmem h_S1x16))
  let g : Vec F S1x16 .f32 ← Prog.lift (.load Dm (Rect.unit (s := S64x128) o S1x16.size ho).toLoadRect (View.loadsAt_vmem h_S1x16))
  let a : Vec F S1x16 .f32 ← Prog.lift (.load Vm (Rect.unit (s := S128x128) oa S1x16.size ha).toLoadRect (View.loadsAt_vmem h_S1x16))
  let b : Vec F S1x16 .f32 ← Prog.lift (.load Vm (Rect.unit (s := S128x128) ob S1x16.size hb).toLoadRect (View.loadsAt_vmem h_S1x16))
  let _x : Vec F S1x16 .f32 ← Prog.lift (.load Vm (Rect.unit (s := S128x128) oa S1x16.size ha).toLoadRect (View.loadsAt_vmem h_S1x16))
  Prog.lift (.store Vm (Rect.unit (s := S128x128) oa S1x16.size ha) (shapeCast S1x16 (k0_pay3 k0_pay21 k0_pay23 (k0_pay1 y) g a) shapeCasts_S16_S1x16) Finset.univ (View.stores_vmem_bits_univ h_S1x16 rfl) (.inl rfl))
  let _x : Vec F S1x16 .f32 ← Prog.lift (.load Vm (Rect.unit (s := S128x128) ob S1x16.size hb).toLoadRect (View.loadsAt_vmem h_S1x16))
  Prog.lift (.store Vm (Rect.unit (s := S128x128) ob S1x16.size hb) (shapeCast S1x16 (k0_pay4 k0_pay21 k0_pay23 (k0_pay1 y) g b) shapeCasts_S16_S1x16) Finset.univ (View.stores_vmem_bits_univ h_S1x16 rfl) (.inl rfl))
  let _x : Vec F S1x16 .f32 ← Prog.lift (.load Y (Rect.unit (s := S64x128) o S1x16.size ho).toLoadRect (View.loadsAt_vmem h_S1x16))
  Prog.lift (.store Y (Rect.unit (s := S64x128) o S1x16.size ho) (shapeCast S1x16 (k0_pay5 k0_pay21 k0_pay22 k0_pay23 (k0_pay1 y) g) shapeCasts_S16_S1x16) Finset.univ (View.stores_vmem_bits_univ h_S1x16 rfl) (.inl rfl))
  pure ⟨⟩

/-! ## The values -/

/-- Zero. -/
def zeroF : F .f32 := Scalar.ofBits .f32 0x00000000#32
/-- The acceleration downwards, minus twenty. -/
def fallF : F .f32 := Scalar.ofBits .f32 0xC1A00000#32
/-- One half. -/
def halfF : F .f32 := Scalar.ofBits .f32 0x3F000000#32
/-- `x`, or zero where the height `p` is at most half the diameter `g`. -/
def gated (p g x : F .f32) : F .f32 := Scalar.select (FloatOps.cmpf .ole p (FloatOps.mulf halfF g)) zeroF x

/-- The index of a two-axis shape at its two coordinates. -/
def at2 {m n : ℕ} (a : Fin m) (b : Fin n) : (⟨2, ![m, n]⟩ : Shape).Idx := fun
  | 0 => a
  | 1 => b

/-- The point's row of a velocity row. -/
def halfRow (i : S128x128.Idx) : S64x128.Idx :=
  at2 ⟨(i 0).val / 2, by have h : (i 0).val < 128 := (i 0).isLt; omega⟩ (i 1)

/-- The heights' slot after `k` trips: the new vertical accelerations in the lanes already visited. -/
def yAfter (k : ℕ) (Y0 D0 : S64x128.Idx → F .f32) (i : S64x128.Idx) : F .f32 :=
  if (i 0).val * 8 + (i 1).val / 16 < k then gated (Y0 i) (D0 i) fallF else Y0 i

/-- The velocities' slot after `k` trips. -/
def vAfter (k : ℕ) (Y0 D0 : S64x128.Idx → F .f32) (V0 : S128x128.Idx → F .f32) (i : S128x128.Idx) : F .f32 :=
  if (i 0).val / 2 * 8 + (i 1).val / 16 < k then gated (Y0 (halfRow i)) (D0 (halfRow i)) (V0 i) else V0 i

/-- Sixteen lanes cast to a row and back are the same lanes. -/
theorem cast_lane {α : Type} (x : S1x16.Idx → α) (j : S1x16.Idx) :
    shapeCast S16 x shapeCasts_S1x16_S16 (Shape.reshapeEquiv (s := S16) (s' := S1x16) shapeCasts_S16_S1x16 j) = x j := by
  unfold shapeCast
  rw [Shape.reshapeEquiv_reshapeEquiv, Shape.reshapeEquiv_self]

/-- The row stored over the first velocity row, lane by lane. -/
theorem pay3_lane (y g a : Vec F S1x16 .f32) (j : S1x16.Idx) :
    shapeCast S1x16 (k0_pay3 k0_pay21 k0_pay23 (k0_pay1 y) g a) shapeCasts_S16_S1x16 j = gated (y j) (g j) (a j) := by
  rw [← cast_lane y j, ← cast_lane g j, ← cast_lane a j]; rfl

/-- The row stored over the second velocity row, lane by lane. -/
theorem pay4_lane (y g a : Vec F S1x16 .f32) (j : S1x16.Idx) :
    shapeCast S1x16 (k0_pay4 k0_pay21 k0_pay23 (k0_pay1 y) g a) shapeCasts_S16_S1x16 j = gated (y j) (g j) (a j) := by
  rw [← cast_lane y j, ← cast_lane g j, ← cast_lane a j]; rfl

/-- The row stored over the heights, lane by lane. -/
theorem pay5_lane (y g : Vec F S1x16 .f32) (j : S1x16.Idx) :
    shapeCast S1x16 (k0_pay5 k0_pay21 k0_pay22 k0_pay23 (k0_pay1 y) g) shapeCasts_S16_S1x16 j = gated (y j) (g j) fallF := by
  rw [← cast_lane y j, ← cast_lane g j]; rfl

/-- A load of sixteen lanes reads the slot at the row and the lane. -/
theorem load_lane {sp : Space} {m : ℕ} (v : View sig .scVector sp ⟨2, ![m, 128]⟩ .f32) (f : v.ty.Contents (Elt F)) (o : Fin 2 → ℕ)
    (ho : ∀ a, o a + S1x16.size a ≤ (⟨2, ![m, 128]⟩ : Shape).size a) (j : S1x16.Idx) (i : (⟨2, ![m, 128]⟩ : Shape).Idx)
    (h0 : (i 0).val = o 0) (h1 : (i 1).val = o 1 + (j 1).val) :
    v.readAt (Elt F) (Rect.unit (s := ⟨2, ![m, 128]⟩) o S1x16.size ho).toLoadRect f j = v.read (Elt F) f i := by
  rw [View.readAt_apply]
  congr 1
  funext a
  apply Fin.ext
  match a with
  | 0 => have hj : (j 0).val < 1 := (j 0).isLt
         show o 0 + 1 * (j 0).val = (i 0).val
         omega
  | 1 => show o 1 + 1 * (j 1).val = (i 1).val
         omega

/-- What a slot reads after sixteen lanes are stored: the stored lanes there, the old contents elsewhere. -/
theorem store_lane {sp : Space} {m : ℕ} (v : View sig .scVector sp ⟨2, ![m, 128]⟩ .f32) (f : v.ty.Contents (Elt F)) (o : Fin 2 → ℕ)
    (ho : ∀ a, o a + S1x16.size a ≤ (⟨2, ![m, 128]⟩ : Shape).size a) (w : S1x16.Idx → F .f32)
    (L : List (View.Piece (Elt F) ⟨2, ![m, 128]⟩ .f32)) (i : (⟨2, ![m, 128]⟩ : Shape).Idx) :
    v.read (Elt F) (v.writes (Elt F) f (⟨Rect.unit (s := ⟨2, ![m, 128]⟩) o S1x16.size ho, w⟩ :: L)) i
      = if h : (i 0).val = o 0 ∧ o 1 ≤ (i 1).val ∧ (i 1).val < o 1 + 16 then w (at2 0 ⟨(i 1).val - o 1, by omega⟩)
        else v.read (Elt F) (v.writes (Elt F) f L) i := by
  split
  · rename_i h
    refine View.read_writes_cons_hit_of_coords v f (Rect.unit (s := ⟨2, ![m, 128]⟩) o S1x16.size ho) w L (at2 (m := 1) (n := 16) 0 ⟨(i 1).val - o 1, by omega⟩) i fun a => ?_
    match a with
    | 0 => show (i 0).val = o 0 + 1 * 0
           omega
    | 1 => show (i 1).val = o 1 + 1 * ((i 1).val - o 1)
           omega
  · rename_i h
    by_cases h0 : (i 0).val = o 0
    · exact View.read_writes_cons_miss_of_axis v f _ L i 1 (o 1) 16 rfl rfl rfl (by
        have : ¬ (o 1 ≤ (i 1).val ∧ (i 1).val < o 1 + 16) := fun h' => h ⟨h0, h'⟩
        omega)
    · exact View.read_writes_cons_miss_of_axis v f _ L i 0 (o 0) 1 rfl rfl rfl (by omega)

/-! ## The trip -/

/-- The three slots after `k` trips from slots that read `Y0`, `V0` and `D0`. -/
def chunkInv (d : Dev nD) (c : Fin τ.nSC) (s : Fin τ.nSub) (Y : Memref sig .scVector .vmem S64x128 .f32) (Vm : Memref sig .scVector .vmem S128x128 .f32)
    (Dm : Memref sig .scVector .vmem S64x128 .f32) (Y0 D0 : S64x128.Idx → F .f32) (V0 : S128x128.Idx → F .f32) (k : ℕ) : sProp 𝕄 :=
  iprop((∃ gy, ⌜Y.view.read (Elt F) gy = yAfter k Y0 D0⌝ ∗ Y.view.loc (V d c s) ↦[Y.view.set]{fullShare} gy)
    ∗ (∃ gv, ⌜Vm.view.read (Elt F) gv = vAfter k Y0 D0 V0⌝ ∗ Vm.view.loc (V d c s) ↦[Vm.view.set]{fullShare} gv)
    ∗ (∃ gd, ⌜Dm.view.read (Elt F) gd = D0⌝ ∗ Dm.view.loc (V d c s) ↦[Dm.view.set]{fullShare} gd))

/-- Trip `t` takes the slots after `t` trips to the slots after `t + 1`. -/
theorem chunkStep_trip (d : Dev nD) {c : Fin τ.nSC} {s : Fin τ.nSub} (Y : Memref sig .scVector .vmem S64x128 .f32) (Vm : Memref sig .scVector .vmem S128x128 .f32)
    (Dm : Memref sig .scVector .vmem S64x128 .f32) (Y0 D0 : S64x128.Idx → F .f32) (V0 : S128x128.Idx → F .f32) (t : ℕ) (o oa ob : Fin 2 → Nat)
    (ho : ∀ a, o a + S1x16.size a ≤ S64x128.size a) (ha : ∀ a, oa a + S1x16.size a ≤ S128x128.size a)
    (hb : ∀ a, ob a + S1x16.size a ≤ S128x128.size a)
    (eo : o = ![t / 8, t % 8 * 16]) (ea : oa = ![2 * (t / 8), t % 8 * 16]) (eb : ob = ![2 * (t / 8) + 1, t % 8 * 16]) :
    chunkInv (F := F) d c s Y Vm Dm Y0 D0 V0 t
      ⊢ wp frame (wpE (defs₀ (F := F)) 𝒱₀ (V d c s) none) Set.univ (chunkStep Y Vm Dm o oa ob ho ha hb) fun _ =>
        chunkInv (F := F) d c s Y Vm Dm Y0 D0 V0 (t + 1) := by
  have o0 : o 0 = t / 8 := by rw [eo]; rfl
  have o1 : o 1 = t % 8 * 16 := by rw [eo]; rfl
  have a0 : oa 0 = 2 * (t / 8) := by rw [ea]; rfl
  have a1 : oa 1 = t % 8 * 16 := by rw [ea]; rfl
  have b0 : ob 0 = 2 * (t / 8) + 1 := by rw [eb]; rfl
  have b1 : ob 1 = t % 8 * 16 := by rw [eb]; rfl
  unfold chunkInv
  iintro ⟨⟨%gy, %hy, HY⟩, ⟨%gv, %hv, HV⟩, ⟨%gd, %hd, HD⟩⟩
  sl_unfold [chunkStep]
  sl_exec
  sl_step
  isplitl [HY]
  · iexists _
    isplitr
    rotate_left
    · iexact HY
    ipureintro
    funext i
    have hi1 : (i 1).val < 128 := (i 1).isLt
    rw [store_lane]
    split
    · rename_i h
      rw [pay5_lane, load_lane Y.view gy o ho _ i h.1 (by show (i 1).val = o 1 + ((i 1).val - o 1); omega),
        load_lane Dm.view gd o ho _ i h.1 (by show (i 1).val = o 1 + ((i 1).val - o 1); omega), hy, hd]
      unfold yAfter
      rw [if_neg (by omega), if_pos (by omega)]
    · rename_i h
      rw [View.writes_nil, hy]
      unfold yAfter
      exact if_congr (by omega) rfl rfl
  isplitl [HV]
  · iexists _
    isplitr
    rotate_left
    · iexact HV
    ipureintro
    funext i
    have hi1 : (i 1).val < 128 := (i 1).isLt
    have q0 : (halfRow i 0).val = (i 0).val / 2 := rfl
    have q1 : (halfRow i 1).val = (i 1).val := rfl
    rw [store_lane]
    split
    · rename_i h
      rw [pay4_lane, load_lane Vm.view gv ob hb _ i h.1 (by show (i 1).val = ob 1 + ((i 1).val - ob 1); omega),
        load_lane Y.view gy o ho _ (halfRow i) (by omega) (by show (i 1).val = o 1 + ((i 1).val - ob 1); omega),
        load_lane Dm.view gd o ho _ (halfRow i) (by omega) (by show (i 1).val = o 1 + ((i 1).val - ob 1); omega), hy, hv, hd]
      unfold yAfter vAfter
      rw [if_neg (by omega), if_neg (by omega), if_pos (by omega)]
    · rename_i h
      rw [store_lane]
      split
      · rename_i h'
        rw [pay3_lane, load_lane Vm.view gv oa ha _ i h'.1 (by show (i 1).val = oa 1 + ((i 1).val - oa 1); omega),
          load_lane Y.view gy o ho _ (halfRow i) (by omega) (by show (i 1).val = o 1 + ((i 1).val - oa 1); omega),
          load_lane Dm.view gd o ho _ (halfRow i) (by omega) (by show (i 1).val = o 1 + ((i 1).val - oa 1); omega), hy, hv, hd]
        unfold yAfter vAfter
        rw [if_neg (by omega), if_neg (by omega), if_pos (by omega)]
      · rename_i h'
        rw [View.writes_nil, hv]
        unfold vAfter
        exact if_congr (by omega) rfl rfl
  · iexists gd
    isplitr
    · ipureintro; exact hd
    · iexact HD

/-! ## The zero buffer -/

/-- The zeros' scratch after `k` trips of its filling loop: zero in the lanes already visited. -/
def zeroInv (d : Dev nD) (c : Fin τ.nSC) (s : Fin τ.nSub) (Z : Memref sig .scVector .vmem S64x128 .f32) (k : ℕ) : sProp 𝕄 :=
  iprop(∃ gz, ⌜∀ i : S64x128.Idx, (i 0).val * 8 + (i 1).val / 16 < k → Z.view.read (Elt F) gz i = zeroF⌝ ∗ Z.view.loc (V d c s) ↦[Z.view.set]{fullShare} gz)

/-- One trip of the filling loop. -/
def zeroStep {c : Fin τ.nSC} {s : Fin τ.nSub} (Z : Memref sig .scVector .vmem S64x128 .f32) (o : Fin 2 → Nat)
    (ho : ∀ a, o a + S1x16.size a ≤ S64x128.size a) : Prog (TpuEff nD τ sig (Elt F) Λ₀ (.scVector c s)) Unit := do
  let _x : Vec F S1x16 .f32 ← Prog.lift (.load Z (Rect.unit (s := S64x128) o S1x16.size ho).toLoadRect (View.loadsAt_vmem h_S1x16))
  Prog.lift (.store Z (Rect.unit (s := S64x128) o S1x16.size ho) (shapeCast S1x16 (k0_pay21 (F := F)) shapeCasts_S16_S1x16) Finset.univ (View.stores_vmem_bits_univ h_S1x16 rfl) (.inl rfl))
  pure ⟨⟩

/-- Trip `t` of the filling loop. -/
theorem zeroStep_trip (d : Dev nD) {c : Fin τ.nSC} {s : Fin τ.nSub} (Z : Memref sig .scVector .vmem S64x128 .f32) (t : ℕ) (o : Fin 2 → Nat)
    (ho : ∀ a, o a + S1x16.size a ≤ S64x128.size a) (eo : o = ![t / 8, t % 8 * 16]) :
    zeroInv (F := F) d c s Z t
      ⊢ wp frame (wpE (defs₀ (F := F)) 𝒱₀ (V d c s) none) Set.univ (zeroStep Z o ho) fun _ => zeroInv (F := F) d c s Z (t + 1) := by
  have o0 : o 0 = t / 8 := by rw [eo]; rfl
  have o1 : o 1 = t % 8 * 16 := by rw [eo]; rfl
  unfold zeroInv
  iintro ⟨%gz, %hz, HZ⟩
  sl_unfold [zeroStep]
  sl_exec
  sl_step
  iexists _
  isplitr
  rotate_left
  · iexact HZ
  ipureintro
  intro i hi
  have hi1 : (i 1).val < 128 := (i 1).isLt
  rw [store_lane]
  split
  · rfl
  · rename_i h
    rw [View.writes_nil]
    exact hz i (by omega)

end Cert.Proof.Fall

end
-- ==== Proof.Body.lean ====
/-
  One tile's run: four chunks, double buffered, by the symbolic executor; each loop by the trip of the chunk module.
-/
module

public import proofs.«01_k».proof.Proof.Chunk

@[expose] public section

noncomputable section

namespace Cert.Proof.Fall

open Cert.KernelIdeal Cert.KernelIdeal.Gen
open Idealize.ShloMosaic Idealize.ShloMosaic.Tactic
open Idealize.ShloMosaic.SparseCore (S V)
open Idealize.ShloMosaic.SparseCore.Cfg (HIx Pay)
open Idealize.SL Idealize.SL.RA Idealize.SL.BI Idealize.SL.ProofMode
open scoped Idealize.SL.BI
open Idealize.SL.BI.BIBase Idealize.SL.Sem

variable {F : FTy → Type} [FloatOps F]

local notation "𝕄" => MT nD τ sig (HIx 1) (Elt F) ℕ UU ℕ

/-! ## The offsets in closed form -/

/-- The trip's row and lane in the zeros' buffer. -/
theorem off1_eq : ∀ t : Fin k0_t1_loop.trips, k0_off1 t = ![t.val / 8, t.val % 8 * 16] := by decide +kernel
/-- The trip's row and lane in the heights' and diameters' slots. -/
theorem off5_eq : ∀ t : Fin k0_t2_loop.trips, k0_off5 t = ![t.val / 8, t.val % 8 * 16] := by decide +kernel
/-- The trip's row and lane in the velocities' slot, first coordinate. -/
theorem off6_eq : ∀ t : Fin k0_t2_loop.trips, k0_off6 t = ![2 * (t.val / 8), t.val % 8 * 16] := by decide +kernel
/-- The same, second coordinate. -/
theorem off7_eq : ∀ t : Fin k0_t2_loop.trips, k0_off7 t = ![2 * (t.val / 8) + 1, t.val % 8 * 16] := by decide +kernel

/-! ## Slots, chunks and cells by name -/

abbrev yW : Memref sig .scVector .vmem S2x64x128 .f32 := Memref.whole cc0_scratch0
abbrev vW : Memref sig .scVector .vmem S2x128x128 .f32 := Memref.whole cc0_scratch1
abbrev dW : Memref sig .scVector .vmem S2x64x128 .f32 := Memref.whole cc0_scratch2
abbrev zW : Memref sig .scVector .vmem S64x128 .f32 := Memref.whole cc0_scratch3
abbrev posW : Memref sig .scVector .hbm S8192x2x128 .f32 := Memref.whole main_v2_scv
abbrev velW : Memref sig .scVector .hbm S16384x128 .f32 := Memref.whole main_v5_scv
abbrev diaW : Memref sig .scVector .hbm S8192x128 .f32 := Memref.whole main_v0_scv
abbrev dposW : Memref sig .scVector .hbm S16384x128 .f32 := Memref.whole main_v6_0_scv
abbrev dvelW : Memref sig .scVector .hbm S8192x2x128 .f32 := Memref.whole main_v6_1_scv

abbrev y0 : Memref sig .scVector .vmem S64x128 .f32 := (yW.slice (Rect.unit (s := S2x64x128) ![0, 0, 0] S1x64x128.size inb_S2x64x128_S1x64x128_0_0_0) (fun _ => rfl)).squeeze S64x128 squeezes_S1x64x128_S64x128
abbrev y1 : Memref sig .scVector .vmem S64x128 .f32 := (yW.slice (Rect.unit (s := S2x64x128) ![1, 0, 0] S1x64x128.size inb_S2x64x128_S1x64x128_1_0_0) (fun _ => rfl)).squeeze S64x128 squeezes_S1x64x128_S64x128
abbrev v0 : Memref sig .scVector .vmem S128x128 .f32 := (vW.slice (Rect.unit (s := S2x128x128) ![0, 0, 0] S1x128x128.size inb_S2x128x128_S1x128x128_0_0_0) (fun _ => rfl)).squeeze S128x128 squeezes_S1x128x128_S128x128
abbrev v1 : Memref sig .scVector .vmem S128x128 .f32 := (vW.slice (Rect.unit (s := S2x128x128) ![1, 0, 0] S1x128x128.size inb_S2x128x128_S1x128x128_1_0_0) (fun _ => rfl)).squeeze S128x128 squeezes_S1x128x128_S128x128
abbrev d0 : Memref sig .scVector .vmem S64x128 .f32 := (dW.slice (Rect.unit (s := S2x64x128) ![0, 0, 0] S1x64x128.size inb_S2x64x128_S1x64x128_0_0_0) (fun _ => rfl)).squeeze S64x128 squeezes_S1x64x128_S64x128
abbrev d1 : Memref sig .scVector .vmem S64x128 .f32 := (dW.slice (Rect.unit (s := S2x64x128) ![1, 0, 0] S1x64x128.size inb_S2x64x128_S1x64x128_1_0_0) (fun _ => rfl)).squeeze S64x128 squeezes_S1x64x128_S64x128

/-- The word of a chunk's first row within its tile. -/
abbrev cw (r : Fin 4) : BitVec 32 := BitVec.ofNat 32 (64 * r.val)
abbrev posC (i : grid0.Coords) (r : Fin 4) : Memref sig .scVector .hbm S64x128 .f32 :=
  (posW.slice (Rect.unit (s := S8192x2x128) (k0_off2 i (cw r)) S64x1x128.size (k0_off2_inb i r)) (fun _ => rfl)).squeeze S64x128 squeezes_S64x1x128_S64x128
abbrev velC (i : grid0.Coords) (r : Fin 4) : Memref sig .scVector .hbm S128x128 .f32 :=
  velW.slice (Rect.unit (s := S16384x128) (k0_off3 i (cw r)) S128x128.size (k0_off3_inb i r)) (fun _ => rfl)
abbrev diaC (i : grid0.Coords) (r : Fin 4) : Memref sig .scVector .hbm S64x128 .f32 :=
  diaW.slice (Rect.unit (s := S8192x128) (k0_off4 i (cw r)) S64x128.size (k0_off4_inb i r)) (fun _ => rfl)
abbrev dposC (i : grid0.Coords) (r : Fin 4) : Memref sig .scVector .hbm S128x128 .f32 :=
  dposW.slice (Rect.unit (s := S16384x128) (k0_off3 i (cw r)) S128x128.size (k0_off3_inb i r)) (fun _ => rfl)
abbrev dvelY (i : grid0.Coords) (r : Fin 4) : Memref sig .scVector .hbm S64x128 .f32 :=
  (dvelW.slice (Rect.unit (s := S8192x2x128) (k0_off2 i (cw r)) S64x1x128.size (k0_off2_inb i r)) (fun _ => rfl)).squeeze S64x128 squeezes_S64x1x128_S64x128
abbrev dvelX (i : grid0.Coords) (r : Fin 4) : Memref sig .scVector .hbm S64x128 .f32 :=
  (dvelW.slice (Rect.unit (s := S8192x2x128) (k0_off8 i (cw r)) S64x1x128.size (k0_off8_inb i r)) (fun _ => rfl)).squeeze S64x128 squeezes_S64x1x128_S64x128

/-- The tile of a grid point. -/
abbrev tileOf (d : Dev nD) (i : grid0.Coords) : Thread nD τ := V d ((i 0).castLE hcore0) ((i 1).castLE hsub0)

abbrev sem0 (A : DmaSems sig S2) : DmaSem sig := ((A.slice (Rect.unit (s := S2) ![0] S1.size inb_S2_S1_0)).squeeze S_ squeezes_S1_S_).sem
abbrev sem1 (A : DmaSems sig S2) : DmaSem sig := ((A.slice (Rect.unit (s := S2) ![1] S1.size inb_S2_S1_1)).squeeze S_ squeezes_S1_S_).sem

/-! ## What is held -/

/-- A view's own elements, read as `G`. -/
def heldAs (thr : Thread nD τ) {sp : Space} {s : Shape} (m : Memref sig thr.2.kind sp s .f32) (G : s.Idx → F .f32) : sProp 𝕄 :=
  iprop(∃ f, ⌜m.view.read (Elt F) f = G⌝ ∗ m.view.loc thr ↦[m.view.set]{fullShare} f)

/-- A view's own elements, at whatever they hold. -/
def heldAny (thr : Thread nD τ) {sp : Space} {s : Shape} (m : Memref sig thr.2.kind sp s .f32) : sProp 𝕄 :=
  iprop(∃ f : Buf (Elt F) (m.view.loc thr), m.view.loc thr ↦[m.view.set]{fullShare} f)

/-- What a view reads after one write of all of it. -/
theorem read_whole {κ : Kind} {sp : Space} {s : Shape} (v : View sig κ sp s .f32) (f : v.ty.Contents (Elt F)) (w : s.Idx → F .f32) :
    v.read (Elt F) (v.writes (Elt F) f [⟨Rect.whole s, w⟩]) = w := by
  funext y
  refine View.read_writes_cons_hit_of_coords v f (Rect.whole s) w [] y y fun a => ?_
  show (y a).val = 0 + 1 * (y a).val
  omega

/-- After a write of the whole view, the view reads what was written. -/
theorem heldAs_whole (thr : Thread nD τ) {sp : Space} {s : Shape} (m : Memref sig thr.2.kind sp s .f32) (f : m.view.ty.Contents (Elt F))
    (w G : s.Idx → F .f32) (h : w = G) :
    (m.view.loc thr ↦[m.view.set]{fullShare} m.view.writes (Elt F) f [⟨Rect.whole s, w⟩] : sProp 𝕄) ⊢ heldAs thr m G := by
  unfold heldAs
  iintro H
  iexists _
  isplitr
  rotate_left
  · iexact H
  · ipureintro; rw [read_whole, h]

/-- Three slots freshly filled are the slots before the first trip. -/
theorem chunkInv_start (d : Dev nD) (c : Fin τ.nSC) (s : Fin τ.nSub) (Y : Memref sig .scVector .vmem S64x128 .f32) (Vm : Memref sig .scVector .vmem S128x128 .f32)
    (Dm : Memref sig .scVector .vmem S64x128 .f32) (Y0 D0 : S64x128.Idx → F .f32) (V0 : S128x128.Idx → F .f32)
    (fy : Y.view.ty.Contents (Elt F)) (fv : Vm.view.ty.Contents (Elt F)) (fd : Dm.view.ty.Contents (Elt F)) :
    (iprop((Y.view.loc (V d c s) ↦[Y.view.set]{fullShare} Y.view.writes (Elt F) fy [⟨Rect.whole S64x128, Y0⟩])
      ∗ (Vm.view.loc (V d c s) ↦[Vm.view.set]{fullShare} Vm.view.writes (Elt F) fv [⟨Rect.whole S128x128, V0⟩])
      ∗ (Dm.view.loc (V d c s) ↦[Dm.view.set]{fullShare} Dm.view.writes (Elt F) fd [⟨Rect.whole S64x128, D0⟩])) : sProp 𝕄)
      ⊢ chunkInv (F := F) d c s Y Vm Dm Y0 D0 V0 0 := by
  unfold chunkInv
  iintro ⟨HY, HV, HD⟩
  isplitl [HY]
  · iexists _
    isplitr
    rotate_left
    · iexact HY
    · ipureintro; rw [read_whole]; funext i; exact (if_neg (Nat.not_lt_zero _)).symm
  isplitl [HV]
  · iexists _
    isplitr
    rotate_left
    · iexact HV
    · ipureintro; rw [read_whole]; funext i; exact (if_neg (Nat.not_lt_zero _)).symm
  · iexists _
    isplitr
    rotate_left
    · iexact HD
    · ipureintro; rw [read_whole]

/-! ## What a tile computes, chunk by chunk -/

/-- The heights of chunk `r`. -/
abbrev pIn (d : Dev nD) (i : grid0.Coords) (r : Fin 4) (X2 : Buf (Elt F) (posLoc d)) : S64x128.Idx → F .f32 := (posC i r).view.read (Elt F) X2
/-- The velocities of chunk `r`. -/
abbrev vIn (d : Dev nD) (i : grid0.Coords) (r : Fin 4) (X5 : Buf (Elt F) (velLoc d)) : S128x128.Idx → F .f32 := (velC i r).view.read (Elt F) X5
/-- The diameters of chunk `r`. -/
abbrev gIn (d : Dev nD) (i : grid0.Coords) (r : Fin 4) (X0 : Buf (Elt F) (diaLoc d)) : S64x128.Idx → F .f32 := (diaC i r).view.read (Elt F) X0

/-- Chunk `r`'s three results. -/
def chunkOut (d : Dev nD) (i : grid0.Coords) (X2 : Buf (Elt F) (posLoc d)) (X5 : Buf (Elt F) (velLoc d)) (X0 : Buf (Elt F) (diaLoc d)) (r : Fin 4) : sProp 𝕄 :=
  iprop(heldAs (F := F) (tileOf d i) (dposC i r) (vAfter 512 (pIn d i r X2) (gIn d i r X0) (vIn d i r X5))
    ∗ heldAs (F := F) (tileOf d i) (dvelY i r) (yAfter 512 (pIn d i r X2) (gIn d i r X0))
    ∗ heldAs (F := F) (tileOf d i) (dvelX i r) (fun _ => zeroF))

/-- Chunk `r`'s part of the two results, before. -/
def chunkHole (d : Dev nD) (i : grid0.Coords) (dp : Buf (Elt F) (dposLoc d)) (dv : Buf (Elt F) (dvelLoc d)) (r : Fin 4) : sProp 𝕄 :=
  iprop(((dposC i r).view.loc (tileOf d i) ↦[(dposC i r).view.set]{fullShare} dp)
    ∗ ((dvelY i r).view.loc (tileOf d i) ↦[(dvelY i r).view.set]{fullShare} dv)
    ∗ ((dvelX i r).view.loc (tileOf d i) ↦[(dvelX i r).view.set]{fullShare} dv))

/-- The tile's cells, at zero. -/
def tileCells (d : Dev nD) (i : grid0.Coords) : sProp 𝕄 :=
  iprop(semVal (tileOf d i, .dma (sem0 cc0_scratch4)) 0 ∗ semVal (tileOf d i, .dma (sem1 cc0_scratch4)) 0
    ∗ semVal (tileOf d i, .dma (sem0 cc0_scratch5)) 0 ∗ semVal (tileOf d i, .dma (sem1 cc0_scratch5)) 0
    ∗ semVal (tileOf d i, .dma (sem0 cc0_scratch6)) 0 ∗ semVal (tileOf d i, .dma (sem1 cc0_scratch6)) 0
    ∗ semVal (tileOf d i, .dma (sem0 cc0_scratch7)) 0 ∗ semVal (tileOf d i, .dma (sem1 cc0_scratch7)) 0
    ∗ semVal (tileOf d i, .dma (sem0 cc0_scratch8)) 0 ∗ semVal (tileOf d i, .dma (sem1 cc0_scratch8)) 0
    ∗ semVal (tileOf d i, .dma (sem0 cc0_scratch9)) 0 ∗ semVal (tileOf d i, .dma (sem1 cc0_scratch9)) 0)

/-- The tile's scratch, slot by slot, at whatever it holds. -/
def tileSlots (d : Dev nD) (i : grid0.Coords) : sProp 𝕄 :=
  iprop(heldAny (F := F) (tileOf d i) y0 ∗ heldAny (F := F) (tileOf d i) y1 ∗ heldAny (F := F) (tileOf d i) v0 ∗ heldAny (F := F) (tileOf d i) v1
    ∗ heldAny (F := F) (tileOf d i) d0 ∗ heldAny (F := F) (tileOf d i) d1 ∗ heldAny (F := F) (tileOf d i) zW)

/-- The arrays the tile reads, at a share. -/
def tileIn (d : Dev nD) (i : grid0.Coords) (q : PosShare TreeShare) (X2 : Buf (Elt F) (posLoc d)) (X5 : Buf (Elt F) (velLoc d)) (X0 : Buf (Elt F) (diaLoc d)) : sProp 𝕄 :=
  iprop((posW.view.loc (tileOf d i) ↦{q} X2) ∗ (velW.view.loc (tileOf d i) ↦{q} X5) ∗ (diaW.view.loc (tileOf d i) ↦{q} X0))

/-- A zero buffer that has gone all its 512 trips reads zero everywhere. -/
theorem zero_all (gz : zW.view.ty.Contents (Elt F))
    (h : ∀ i : S64x128.Idx, (i (0 : Fin 2)).val * 8 + (i (1 : Fin 2)).val / 16 < 512 → zW.view.read (Elt F) gz i = zeroF) :
    zW.view.read (Elt F) gz = fun _ => zeroF := by
  funext i
  refine h i ?_
  have h0 : (i (0 : Fin 2)).val < 64 := (i (0 : Fin 2)).isLt
  have h1 : (i (1 : Fin 2)).val < 128 := (i (1 : Fin 2)).isLt
  omega

/-- The three pieces a chunk's copies out have written are the chunk's results. -/
theorem chunkOut_intro (d : Dev nD) (i : grid0.Coords) (X2 : Buf (Elt F) (posLoc d)) (X5 : Buf (Elt F) (velLoc d)) (X0 : Buf (Elt F) (diaLoc d)) (r : Fin 4)
    (fo : Buf (Elt F) (dposLoc d)) (fw fx : Buf (Elt F) (dvelLoc d))
    (a : S128x128.Idx → F .f32) (b z : S64x128.Idx → F .f32)
    (ha : a = vAfter 512 (pIn d i r X2) (gIn d i r X0) (vIn d i r X5)) (hb : b = yAfter 512 (pIn d i r X2) (gIn d i r X0)) (hz : z = fun _ => zeroF) :
    (iprop(((dposC i r).view.loc (tileOf d i) ↦[(dposC i r).view.set]{fullShare} (dposC i r).view.writes (Elt F) fo [⟨Rect.whole S128x128, a⟩])
      ∗ ((dvelY i r).view.loc (tileOf d i) ↦[(dvelY i r).view.set]{fullShare} (dvelY i r).view.writes (Elt F) fw [⟨Rect.whole S64x128, b⟩])
      ∗ ((dvelX i r).view.loc (tileOf d i) ↦[(dvelX i r).view.set]{fullShare} (dvelX i r).view.writes (Elt F) fx [⟨Rect.whole S64x128, z⟩])) : sProp 𝕄)
      ⊢ chunkOut (F := F) d i X2 X5 X0 r := by
  unfold chunkOut
  exact sep_mono (heldAs_whole _ _ _ _ _ ha) (sep_mono (heldAs_whole _ _ _ _ _ hb) (heldAs_whole _ _ _ _ _ hz))

set_option maxHeartbeats 2000000 in
/-- The run of one tile. -/
theorem tile_run (d : Dev nD) (i : grid0.Coords) (O : CellTallies nD τ sig (HIx 1)) (W : Waits sig (HIx 1))
    (X2 : Buf (Elt F) (posLoc d)) (X5 : Buf (Elt F) (velLoc d)) (X0 : Buf (Elt F) (diaLoc d)) (q : PosShare TreeShare)
    (dp : Buf (Elt F) (dposLoc d)) (dv : Buf (Elt F) (dvelLoc d)) :
    (iprop(Transfers.MayWaits (tileOf d i) (none : HIx 1) O ∗ tileIn (F := F) d i q X2 X5 X0 ∗ tileSlots (F := F) d i
        ∗ chunkHole (F := F) d i dp dv 0 ∗ chunkHole (F := F) d i dp dv 1 ∗ chunkHole (F := F) d i dp dv 2 ∗ chunkHole (F := F) d i dp dv 3
        ∗ tileCells (F := F) d i ∗ owes (tileOf d i) O W) : sProp 𝕄)
      ⊢ wp frame (wpE (defs₀ (F := F)) 𝒱₀ (tileOf d i) none) Set.univ
          (cc0__sc_body i posW (Memref.isWhole_whole _) velW (Memref.isWhole_whole _) diaW (Memref.isWhole_whole _)
            dposW (Memref.isWhole_whole _) dvelW (Memref.isWhole_whole _) yW (Memref.isWhole_whole _) vW (Memref.isWhole_whole _)
            dW (Memref.isWhole_whole _) zW (Memref.isWhole_whole _)
            cc0_scratch4 cc0_scratch5 cc0_scratch6 cc0_scratch7 cc0_scratch8 cc0_scratch9) fun _ =>
        iprop(tileIn (F := F) d i q X2 X5 X0 ∗ tileSlots (F := F) d i
          ∗ chunkOut (F := F) d i X2 X5 X0 0 ∗ chunkOut (F := F) d i X2 X5 X0 1 ∗ chunkOut (F := F) d i X2 X5 X0 2 ∗ chunkOut (F := F) d i X2 X5 X0 3
          ∗ tileCells (F := F) d i ∗ ∃ W', ⌜∀ p ∈ W', p ∈ W ∨ p.2 = none⌝ ∗ owes (tileOf d i) O W') := by
  unfold tileIn tileSlots tileCells chunkHole heldAny
  iintro ⟨Hmw, ⟨HP, HV, HD⟩, ⟨⟨%_, Hy0⟩, ⟨%_, Hy1⟩, ⟨%_, Hv0⟩, ⟨%_, Hv1⟩, ⟨%_, Hd0⟩, ⟨%_, Hd1⟩, ⟨%z, Hz⟩⟩, ⟨Ho0, Hw0, Hx0⟩, ⟨Ho1, Hw1, Hx1⟩,
    ⟨Ho2, Hw2, Hx2⟩, ⟨Ho3, Hw3, Hx3⟩, ⟨Ha0, Ha1, Hb0, Hb1, Hc0, Hc1, He0, He1, Hf0, Hf1, Hg0, Hg1⟩, HO⟩
  sl_unfold [cc0__sc_body]
  sl_exec
  sl_for (fun k _ => zeroInv (F := F) d ((i 0).castLE hcore0) ((i 1).castLE hsub0) zW k) $$ [Hz]
  case region =>
    intro k _
    exact zeroStep_trip d zW k.val (k0_off1 k) (k0_off1_inb k) (off1_eq k)
  · unfold zeroInv
    iexists z
    isplitr
    · ipureintro; intro i h; exact absurd h (Nat.not_lt_zero _)
    · iexact Hz
  iintro %_ HZ
  unfold zeroInv
  icases HZ with ⟨%gz, %hz, HZ⟩
  ihave HZ := (pointsTo_share (PosShare.mem_left_op_right fullShare)).1 $$ HZ
  icases HZ with ⟨HZl, HZr⟩
  sl_exec (disch := first | exact View.amount_pos _ _ (show 0 < S64x128.numel by decide) | exact View.amount_pos _ _ (show 0 < S128x128.numel by decide))
  ihave HI := (chunkInv_start (F := F) d ((i 0).castLE hcore0) ((i 1).castLE hsub0) y0 v0 d0 (pIn d i 0 X2) (gIn d i 0 X0) (vIn d i 0 X5) _ _ _) $$ [Hy0 Hv0 Hd0]
  · isplitl [Hy0]; · iexact Hy0
    isplitl [Hv0]; · iexact Hv0
    iexact Hd0
  sl_for (fun k _ => chunkInv (F := F) d ((i 0).castLE hcore0) ((i 1).castLE hsub0) y0 v0 d0 (pIn d i 0 X2) (gIn d i 0 X0) (vIn d i 0 X5) k) $$ [HI]
  case region =>
    intro k _
    exact chunkStep_trip d y0 v0 d0 _ _ _ k.val (k0_off5 k) (k0_off6 k) (k0_off7 k) (k0_off5_inb k) (k0_off6_inb k) (k0_off7_inb k)
      (off5_eq k) (off6_eq k) (off7_eq k)
  · iexact HI
  iintro %_ HI
  unfold chunkInv
  icases HI with ⟨⟨%gy0, %hy0, Hy0⟩, ⟨%gv0, %hv0, Hv0⟩, ⟨%gd0, %hd0, Hd0⟩⟩
  sl_exec (disch := first | exact View.amount_pos _ _ (show 0 < S64x128.numel by decide) | exact View.amount_pos _ _ (show 0 < S128x128.numel by decide))
  ihave HI := (chunkInv_start (F := F) d ((i 0).castLE hcore0) ((i 1).castLE hsub0) y1 v1 d1 (pIn d i 1 X2) (gIn d i 1 X0) (vIn d i 1 X5) _ _ _) $$ [Hy1 Hv1 Hd1]
  · isplitl [Hy1]; · iexact Hy1
    isplitl [Hv1]; · iexact Hv1
    iexact Hd1
  sl_for (fun k _ => chunkInv (F := F) d ((i 0).castLE hcore0) ((i 1).castLE hsub0) y1 v1 d1 (pIn d i 1 X2) (gIn d i 1 X0) (vIn d i 1 X5) k) $$ [HI]
  case region =>
    intro k _
    exact chunkStep_trip d y1 v1 d1 _ _ _ k.val (k0_off9 k) (k0_off10 k) (k0_off11 k) (k0_off9_inb k) (k0_off10_inb k) (k0_off11_inb k)
      (off5_eq k) (off6_eq k) (off7_eq k)
  · iexact HI
  iintro %_ HI
  unfold chunkInv
  icases HI with ⟨⟨%gy1, %hy1, Hy1⟩, ⟨%gv1, %hv1, Hv1⟩, ⟨%gd1, %hd1, Hd1⟩⟩
  sl_exec (disch := first | exact View.amount_pos _ _ (show 0 < S64x128.numel by decide) | exact View.amount_pos _ _ (show 0 < S128x128.numel by decide))
  ihave HI := (chunkInv_start (F := F) d ((i 0).castLE hcore0) ((i 1).castLE hsub0) y0 v0 d0 (pIn d i 2 X2) (gIn d i 2 X0) (vIn d i 2 X5) _ _ _) $$ [Hy0 Hv0 Hd0]
  · isplitl [Hy0]; · iexact Hy0
    isplitl [Hv0]; · iexact Hv0
    iexact Hd0
  sl_for (fun k _ => chunkInv (F := F) d ((i 0).castLE hcore0) ((i 1).castLE hsub0) y0 v0 d0 (pIn d i 2 X2) (gIn d i 2 X0) (vIn d i 2 X5) k) $$ [HI]
  case region =>
    intro k _
    exact chunkStep_trip d y0 v0 d0 _ _ _ k.val (k0_off12 k) (k0_off13 k) (k0_off14 k) (k0_off12_inb k) (k0_off13_inb k) (k0_off14_inb k)
      (off5_eq k) (off6_eq k) (off7_eq k)
  · iexact HI
  iintro %_ HI
  unfold chunkInv
  icases HI with ⟨⟨%gy2, %hy2, Hy0⟩, ⟨%gv2, %hv2, Hv0⟩, ⟨%gd2, %hd2, Hd0⟩⟩
  sl_exec (disch := first | exact View.amount_pos _ _ (show 0 < S64x128.numel by decide) | exact View.amount_pos _ _ (show 0 < S128x128.numel by decide))
  ihave HI := (chunkInv_start (F := F) d ((i 0).castLE hcore0) ((i 1).castLE hsub0) y1 v1 d1 (pIn d i 3 X2) (gIn d i 3 X0) (vIn d i 3 X5) _ _ _) $$ [Hy1 Hv1 Hd1]
  · isplitl [Hy1]; · iexact Hy1
    isplitl [Hv1]; · iexact Hv1
    iexact Hd1
  sl_for (fun k _ => chunkInv (F := F) d ((i 0).castLE hcore0) ((i 1).castLE hsub0) y1 v1 d1 (pIn d i 3 X2) (gIn d i 3 X0) (vIn d i 3 X5) k) $$ [HI]
  case region =>
    intro k _
    exact chunkStep_trip d y1 v1 d1 _ _ _ k.val (k0_off15 k) (k0_off16 k) (k0_off17 k) (k0_off15_inb k) (k0_off16_inb k) (k0_off17_inb k)
      (off5_eq k) (off6_eq k) (off7_eq k)
  · iexact HI
  iintro %_ HI
  unfold chunkInv
  icases HI with ⟨⟨%gy3, %hy3, Hy1⟩, ⟨%gv3, %hv3, Hv1⟩, ⟨%gd3, %hd3, Hd1⟩⟩
  sl_exec (disch := first | exact View.amount_pos _ _ (show 0 < S64x128.numel by decide) | exact View.amount_pos _ _ (show 0 < S128x128.numel by decide))
  sl_step
  ihave HZ := (pointsTo_share (PosShare.mem_left_op_right fullShare)).2 $$ [HZl HZr]
  · isplitl [HZl]
    · iexact HZl
    · iexact HZr
  isplitl [HP HV HD]
  · isplitl [HP]; · iexact HP
    isplitl [HV]; · iexact HV
    iexact HD
  isplitl [Hy0 Hy1 Hv0 Hv1 Hd0 Hd1 HZ]
  · isplitl [Hy0]; · iexists _; iexact Hy0
    isplitl [Hy1]; · iexists _; iexact Hy1
    isplitl [Hv0]; · iexists _; iexact Hv0
    isplitl [Hv1]; · iexists _; iexact Hv1
    isplitl [Hd0]; · iexists _; iexact Hd0
    isplitl [Hd1]; · iexists _; iexact Hd1
    iexists _; iexact HZ
  isplitl [Ho0 Hw0 Hx0]
  · iapply (chunkOut_intro (F := F) d i X2 X5 X0 0 (dposC i 0).view.junk (dvelY i 0).view.junk (dvelX i 0).view.junk _ _ _ hv0 hy0 (zero_all gz hz))
    isplitl [Ho0]; · iexact Ho0
    isplitl [Hw0]; · iexact Hw0
    iexact Hx0
  isplitl [Ho1 Hw1 Hx1]
  · iapply (chunkOut_intro (F := F) d i X2 X5 X0 1 (dposC i 1).view.junk (dvelY i 1).view.junk (dvelX i 1).view.junk _ _ _ hv1 hy1 (zero_all gz hz))
    isplitl [Ho1]; · iexact Ho1
    isplitl [Hw1]; · iexact Hw1
    iexact Hx1
  isplitl [Ho2 Hw2 Hx2]
  · iapply (chunkOut_intro (F := F) d i X2 X5 X0 2 dp dv dv _ _ _ hv2 hy2 (zero_all gz hz))
    isplitl [Ho2]; · iexact Ho2
    isplitl [Hw2]; · iexact Hw2
    iexact Hx2
  isplitl [Ho3 Hw3 Hx3]
  · iapply (chunkOut_intro (F := F) d i X2 X5 X0 3 dp dv dv _ _ _ hv3 hy3 (zero_all gz hz))
    isplitl [Ho3]; · iexact Ho3
    isplitl [Hw3]; · iexact Hw3
    iexact Hx3
  isplitl [Ha0 Ha1 Hb0 Hb1 Hc0 Hc1 He0 He1 Hf0 Hf1 Hg0 Hg1]
  · isplitl [Ha0]; · iexact Ha0
    isplitl [Ha1]; · iexact Ha1
    isplitl [Hb0]; · iexact Hb0
    isplitl [Hb1]; · iexact Hb1
    isplitl [Hc0]; · iexact Hc0
    isplitl [Hc1]; · iexact Hc1
    isplitl [He0]; · iexact He0
    isplitl [He1]; · iexact He1
    isplitl [Hf0]; · iexact Hf0
    isplitl [Hf1]; · iexact Hf1
    isplitl [Hg0]; · iexact Hg0
    iexact Hg1
  iexists _
  isplitr
  rotate_left
  · iexact HO
  · ipureintro
    intro p hp
    repeat (rcases Finset.mem_insert.mp hp with hp | hp; · exact .inr (hp ▸ rfl))
    exact .inl hp

end Cert.Proof.Fall

end
-- ==== Proof.Pieces.lean ====
/-
  What the tiles' results are as whole arrays, and how the arrays are cut: the two results as functions of the three
  operands, each chunk's results as the parts of those functions, the chunks' parts disjoint and covering the arrays.
-/
module

public import proofs.«01_k».proof.Proof.Body

@[expose] public section

noncomputable section

namespace Cert.Proof.Fall

open Cert.KernelIdeal Cert.KernelIdeal.Gen
open Idealize.ShloMosaic Idealize.ShloMosaic.Tactic
open Idealize.ShloMosaic.SparseCore (S V)
open Idealize.ShloMosaic.SparseCore.Cfg (HIx Pay)
open Idealize.SL Idealize.SL.RA Idealize.SL.BI Idealize.SL.ProofMode
open scoped Idealize.SL.BI
open Idealize.SL.BI.BIBase Idealize.SL.Sem

variable {F : FTy → Type}

local notation "𝕄" => MT nD τ sig (HIx 1) (Elt F) ℕ UU ℕ

/-! ## Indices by coordinates -/

/-- The index of a rank-three array with the given coordinates. -/
def at3 {l m n : ℕ} (a : Fin l) (b : Fin m) (c : Fin n) : (⟨3, ![l, m, n]⟩ : Shape).Idx := fun
  | 0 => a
  | 1 => b
  | 2 => c

/-- Two indices of a rank-two array with equal coordinates are equal. -/
theorem ext2 {m n : ℕ} {x y : (⟨2, ![m, n]⟩ : Shape).Idx} (h0 : (x 0).val = (y 0).val) (h1 : (x 1).val = (y 1).val) : x = y := by
  funext a
  match a with
  | 0 => exact Fin.ext h0
  | 1 => exact Fin.ext h1

/-- Two indices of a rank-three array with equal coordinates are equal. -/
theorem ext3 {l m n : ℕ} {x y : (⟨3, ![l, m, n]⟩ : Shape).Idx} (h0 : (x 0).val = (y 0).val) (h1 : (x 1).val = (y 1).val)
    (h2 : (x 2).val = (y 2).val) : x = y := by
  funext a
  match a with
  | 0 => exact Fin.ext h0
  | 1 => exact Fin.ext h1
  | 2 => exact Fin.ext h2

/-! ## The chunks' views, by coordinates -/

/-- The first block of a tile's chunk. -/
def blk (i : grid0.Coords) (r : Fin 4) : ℕ := 512 * (i 1).val + 256 * (i 0).val + 64 * r.val

/-- The middle axis of a column of blocks drops. -/
theorem drop_mid (h : S64x128.numel = S64x1x128.numel) (y : S64x128.Idx) :
    Shape.reshapeEquiv h y = (at3 (l := 64) (m := 1) (n := 128) (y 0) 0 (y 1) : S64x1x128.Idx) := by
  refine Shape.reshapeEquiv_eq_of_rowMajor h ?_
  rw [show S64x1x128.rowMajor (at3 (l := 64) (m := 1) (n := 128) (y 0) 0 (y 1)) = S64x1x128.rowMajor (at3 (l := 64) (m := 1) (n := 128) (y 0) 0 (y 1)) from rfl,
    Shape.rowMajor_val_three, Shape.rowMajor_val_two]
  show ((y 0).val * 1 + 0) * 128 + (y 1).val = (y 0).val * 128 + (y 1).val
  omega

/-- Where a chunk's heights sit. -/
theorem posC_at (i : grid0.Coords) (r : Fin 4) (y : S64x128.Idx) :
    (((posC i r).view.emb y : S8192x2x128.Idx) 0).val = blk i r + (y 0).val ∧ (((posC i r).view.emb y : S8192x2x128.Idx) 1).val = 1
      ∧ (((posC i r).view.emb y : S8192x2x128.Idx) 2).val = (y 1).val := by
  have e := k0_off2_eq i r
  have key : ∀ a, (((posC i r).view.emb y : S8192x2x128.Idx) a).val
      = k0_off2 i (cw r) a + 1 * ((Shape.reshapeEquiv (s := S64x1x128) (s' := S64x128) squeezes_S64x1x128_S64x128.numel_eq y) a).val := fun _ => rfl
  refine ⟨?_, ?_, ?_⟩
  · rw [key, drop_mid, e]; show _ + 1 * (y 0).val = _; unfold blk; simp
  · rw [key, drop_mid, e]; show 1 + 1 * 0 = 1; rfl
  · rw [key, drop_mid, e]; show 0 + 1 * (y 1).val = _; omega

/-- Where a chunk's vertical accelerations go: the same places. -/
theorem dvelY_at (i : grid0.Coords) (r : Fin 4) (y : S64x128.Idx) :
    (((dvelY i r).view.emb y : S8192x2x128.Idx) 0).val = blk i r + (y 0).val ∧ (((dvelY i r).view.emb y : S8192x2x128.Idx) 1).val = 1
      ∧ (((dvelY i r).view.emb y : S8192x2x128.Idx) 2).val = (y 1).val := posC_at i r y

/-- Where a chunk's horizontal accelerations go. -/
theorem dvelX_at (i : grid0.Coords) (r : Fin 4) (y : S64x128.Idx) :
    (((dvelX i r).view.emb y : S8192x2x128.Idx) 0).val = blk i r + (y 0).val ∧ (((dvelX i r).view.emb y : S8192x2x128.Idx) 1).val = 0
      ∧ (((dvelX i r).view.emb y : S8192x2x128.Idx) 2).val = (y 1).val := by
  have e := k0_off8_eq i r
  have key : ∀ a, (((dvelX i r).view.emb y : S8192x2x128.Idx) a).val
      = k0_off8 i (cw r) a + 1 * ((Shape.reshapeEquiv (s := S64x1x128) (s' := S64x128) squeezes_S64x1x128_S64x128.numel_eq y) a).val := fun _ => rfl
  refine ⟨?_, ?_, ?_⟩
  · rw [key, drop_mid, e]; show _ + 1 * (y 0).val = _; unfold blk; simp
  · rw [key, drop_mid, e]; show 0 + 1 * 0 = 0; rfl
  · rw [key, drop_mid, e]; show 0 + 1 * (y 1).val = _; omega

/-- Where a chunk's velocities sit. -/
theorem velC_at (i : grid0.Coords) (r : Fin 4) (y : S128x128.Idx) :
    (((velC i r).view.emb y : S16384x128.Idx) 0).val = 2 * blk i r + (y 0).val ∧ (((velC i r).view.emb y : S16384x128.Idx) 1).val = (y 1).val := by
  have e := k0_off3_eq i r
  have key : ∀ a, (((velC i r).view.emb y : S16384x128.Idx) a).val = k0_off3 i (cw r) a + 1 * (y a).val := fun _ => rfl
  refine ⟨?_, ?_⟩
  · rw [key, e]; show 1024 * (i 1).val + 512 * (i 0).val + 128 * r.val + 1 * (y 0).val = _; unfold blk; omega
  · rw [key, e]; show 0 + 1 * (y 1).val = _; omega

/-- Where a chunk's position derivatives go: the same places. -/
theorem dposC_at (i : grid0.Coords) (r : Fin 4) (y : S128x128.Idx) :
    (((dposC i r).view.emb y : S16384x128.Idx) 0).val = 2 * blk i r + (y 0).val ∧ (((dposC i r).view.emb y : S16384x128.Idx) 1).val = (y 1).val :=
  velC_at i r y

/-- Where a chunk's diameters sit. -/
theorem diaC_at (i : grid0.Coords) (r : Fin 4) (y : S64x128.Idx) :
    (((diaC i r).view.emb y : S8192x128.Idx) 0).val = blk i r + (y 0).val ∧ (((diaC i r).view.emb y : S8192x128.Idx) 1).val = (y 1).val := by
  have e := k0_off4_eq i r
  have key : ∀ a, (((diaC i r).view.emb y : S8192x128.Idx) a).val = k0_off4 i (cw r) a + 1 * (y a).val := fun _ => rfl
  refine ⟨?_, ?_⟩
  · rw [key, e]; show 512 * (i 1).val + 256 * (i 0).val + 64 * r.val + 1 * (y 0).val = _; unfold blk; omega
  · rw [key, e]; show 0 + 1 * (y 1).val = _; omega

/-! ## The results as whole arrays -/

section Values

variable [FloatOps F]

/-- The block of a velocity row. -/
def halfBig (j : S16384x128.Idx) : S8192x128.Idx :=
  at2 ⟨(j 0).val / 2, by have h : (j 0).val < 16384 := (j 0).isLt; omega⟩ (j 1)

/-- The place of a height: its block, the second coordinate, its lane. -/
def high (t : S8192x128.Idx) : S8192x2x128.Idx := at3 (t 0) (1 : Fin 2) (t 1)

/-- The position derivatives: the velocity, or zero where the point lies on the ground. -/
def dposOut (X2 : S8192x2x128.Idx → F .f32) (X5 : S16384x128.Idx → F .f32) (X0 : S8192x128.Idx → F .f32) (j : S16384x128.Idx) : F .f32 :=
  gated (X2 (high (halfBig j))) (X0 (halfBig j)) (X5 j)

/-- The accelerations: zero across, gravity down, or zero where the point lies on the ground. -/
def dvelOut (X2 : S8192x2x128.Idx → F .f32) (X0 : S8192x128.Idx → F .f32) (j : S8192x2x128.Idx) : F .f32 :=
  if (j 1).val = 0 then zeroF else gated (X2 j) (X0 (at2 (j 0) (j 2))) fallF

/-- A chunk's position derivatives are its part of the whole. -/
theorem dposOut_chunk (d : Dev nD) (i : grid0.Coords) (r : Fin 4) (X2 : Buf (Elt F) (posLoc d)) (X5 : Buf (Elt F) (velLoc d)) (X0 : Buf (Elt F) (diaLoc d)) :
    vAfter 512 (pIn d i r X2) (gIn d i r X0) (vIn d i r X5) = (dposC i r).view.read (Elt F) (dposOut X2 X5 X0) := by
  funext y
  have h0 : (y 0).val < 128 := (y 0).isLt
  have h1 : (y 1).val < 128 := (y 1).isLt
  unfold vAfter
  rw [if_pos (by omega)]
  show gated (X2 ((posC i r).view.emb (halfRow y))) (X0 ((diaC i r).view.emb (halfRow y))) (X5 ((velC i r).view.emb y))
    = gated (X2 (high (halfBig ((dposC i r).view.emb y)))) (X0 (halfBig ((dposC i r).view.emb y))) (X5 ((dposC i r).view.emb y))
  have e5 : ((velC i r).view.emb y : S16384x128.Idx) = (dposC i r).view.emb y := rfl
  obtain ⟨a0, a1⟩ := dposC_at i r y
  obtain ⟨b0, b1⟩ := diaC_at i r (halfRow y)
  obtain ⟨c0, c1, c2⟩ := posC_at i r (halfRow y)
  have q0 : (halfRow y 0).val = (y 0).val / 2 := rfl
  have q1 : (halfRow y 1).val = (y 1).val := rfl
  have e0 : ((diaC i r).view.emb (halfRow y) : S8192x128.Idx) = halfBig ((dposC i r).view.emb y) :=
    ext2 (m := 8192) (n := 128) (by show _ = (((dposC i r).view.emb y : S16384x128.Idx) 0).val / 2; omega)
      (by show _ = (((dposC i r).view.emb y : S16384x128.Idx) 1).val; omega)
  have e2 : ((posC i r).view.emb (halfRow y) : S8192x2x128.Idx) = high (halfBig ((dposC i r).view.emb y)) :=
    ext3 (l := 8192) (m := 2) (n := 128) (by show _ = (((dposC i r).view.emb y : S16384x128.Idx) 0).val / 2; omega) c1
      (by show _ = (((dposC i r).view.emb y : S16384x128.Idx) 1).val; omega)
  rw [e0, e2, e5]

/-- A chunk's vertical accelerations are its part of the whole. -/
theorem dvelOut_chunkY (d : Dev nD) (i : grid0.Coords) (r : Fin 4) (X2 : Buf (Elt F) (posLoc d)) (X0 : Buf (Elt F) (diaLoc d)) :
    yAfter 512 (pIn d i r X2) (gIn d i r X0) = (dvelY i r).view.read (Elt F) (dvelOut X2 X0) := by
  funext y
  have h0 : (y 0).val < 64 := (y 0).isLt
  have h1 : (y 1).val < 128 := (y 1).isLt
  unfold yAfter
  rw [if_pos (by omega)]
  obtain ⟨c0, c1, c2⟩ := dvelY_at i r y
  obtain ⟨b0, b1⟩ := diaC_at i r y
  show gated (X2 ((posC i r).view.emb y)) (X0 ((diaC i r).view.emb y)) fallF = dvelOut X2 X0 ((dvelY i r).view.emb y)
  unfold dvelOut
  rw [if_neg (by omega)]
  have e0 : ((diaC i r).view.emb y : S8192x128.Idx)
      = at2 (((dvelY i r).view.emb y : S8192x2x128.Idx) 0) (((dvelY i r).view.emb y : S8192x2x128.Idx) 2) :=
    ext2 (m := 8192) (n := 128) (by show _ = (((dvelY i r).view.emb y : S8192x2x128.Idx) 0).val; omega)
      (by show _ = (((dvelY i r).view.emb y : S8192x2x128.Idx) 2).val; omega)
  rw [e0]
  rfl

/-- A chunk's horizontal accelerations are its part of the whole. -/
theorem dvelOut_chunkX (d : Dev nD) (i : grid0.Coords) (r : Fin 4) (X2 : Buf (Elt F) (posLoc d)) (X0 : Buf (Elt F) (diaLoc d)) :
    (fun _ => zeroF) = (dvelX i r).view.read (Elt F) (dvelOut (F := F) X2 X0) := by
  funext y
  obtain ⟨c0, c1, c2⟩ := dvelX_at i r y
  show zeroF = dvelOut X2 X0 ((dvelX i r).view.emb y)
  unfold dvelOut
  rw [if_pos c1]

/-- A view read as part of whole contents is held at them. -/
theorem heldAs_whole_contents (thr : Thread nD τ) {sp : Space} {s : Shape} (m : Memref sig thr.2.kind sp s .f32) (G : s.Idx → F .f32)
    (g : Buf (Elt F) (m.view.loc thr)) (h : G = m.view.read (Elt F) g) :
    (heldAs thr m G : sProp 𝕄) ⊢ m.view.loc thr ↦[m.view.set]{fullShare} g := by
  unfold heldAs
  iintro ⟨%f, %hf, H⟩
  iapply (Entails.of_eq (pointsTo_congr (f := f) (g := g) fun j hj => ?_)) $$ H
  obtain ⟨x, -, rfl⟩ := Finset.mem_map.mp hj
  have e : m.view.read (Elt F) f x = m.view.read (Elt F) g x := by rw [hf, h]
  exact cast_inj _ |>.mp e

/-- A chunk's results are its parts of the two whole results. -/
theorem chunkOut_whole (d : Dev nD) (i : grid0.Coords) (X2 : Buf (Elt F) (posLoc d)) (X5 : Buf (Elt F) (velLoc d)) (X0 : Buf (Elt F) (diaLoc d)) (r : Fin 4) :
    (chunkOut (F := F) d i X2 X5 X0 r : sProp 𝕄) ⊢ chunkHole (F := F) d i (dposOut X2 X5 X0) (dvelOut X2 X0) r := by
  unfold chunkOut chunkHole
  exact sep_mono (heldAs_whole_contents _ _ _ _ (dposOut_chunk d i r X2 X5 X0))
    (sep_mono (heldAs_whole_contents _ _ _ _ (dvelOut_chunkY d i r X2 X0)) (heldAs_whole_contents _ _ _ _ (dvelOut_chunkX d i r X2 X0)))

end Values

/-! ## The pieces of the two results -/

/-- The tile at the given core and subcore. -/
def crd (c : Fin (grid0.bound 0)) (s : Fin (grid0.bound 1)) : grid0.Coords :=
  fun | 0 => c | 1 => s | ⟨_ + 2, h⟩ => absurd h (Nat.not_lt.2 (Nat.le_add_left _ _))

/-- A tile's chunks of position derivatives, as elements of the array. -/
def dposSet (p : (Fin 2 × Fin 16) × Fin 4) : Finset S16384x128.Idx := (dposC (crd p.1.1 p.1.2) p.2).view.set

/-- A tile's chunks of accelerations, both coordinates. -/
def dvelSet (p : ((Fin 2 × Fin 16) × Fin 4) × Fin 2) : Finset S8192x2x128.Idx :=
  if p.2 = 0 then (dvelY (crd p.1.1.1 p.1.1.2) p.1.2).view.set else (dvelX (crd p.1.1.1 p.1.1.2) p.1.2).view.set

/-- The first block of a piece. -/
def pblk (p : (Fin 2 × Fin 16) × Fin 4) : ℕ := 512 * p.1.2.val + 256 * p.1.1.val + 64 * p.2.val

/-- An element lies in a piece of the position derivatives when its row does. -/
theorem mem_dposSet (p : (Fin 2 × Fin 16) × Fin 4) (j : S16384x128.Idx) :
    j ∈ dposSet p ↔ 2 * pblk p ≤ (j 0).val ∧ (j 0).val < 2 * pblk p + 128 := by
  unfold dposSet
  constructor
  · intro h
    obtain ⟨y, -, rfl⟩ := Finset.mem_map.mp h
    have hy : (y 0).val < 128 := (y 0).isLt
    obtain ⟨a0, -⟩ := dposC_at (crd p.1.1 p.1.2) p.2 y
    have : blk (crd p.1.1 p.1.2) p.2 = pblk p := rfl
    omega
  · intro h
    refine Finset.mem_map.mpr ⟨at2 (m := 128) (n := 128) ⟨(j 0).val - 2 * pblk p, by omega⟩ (j 1), Finset.mem_univ _, ?_⟩
    obtain ⟨a0, a1⟩ := dposC_at (crd p.1.1 p.1.2) p.2 (at2 (m := 128) (n := 128) ⟨(j 0).val - 2 * pblk p, by omega⟩ (j 1))
    refine ext2 (m := 16384) (n := 128) (a0.trans ?_) a1
    show 2 * pblk p + ((j 0).val - 2 * pblk p) = _
    omega

/-- An element lies in a piece of the accelerations when its block does and its coordinate is the piece's. -/
theorem mem_dvelSet (p : ((Fin 2 × Fin 16) × Fin 4) × Fin 2) (j : S8192x2x128.Idx) :
    j ∈ dvelSet p ↔ pblk p.1 ≤ (j 0).val ∧ (j 0).val < pblk p.1 + 64 ∧ (j 1).val + p.2.val = 1 := by
  have hp : p.2.val < 2 := p.2.isLt
  have hj : (j 1).val < 2 := (j 1).isLt
  unfold dvelSet
  split
  · rename_i h2
    have h2' : p.2.val = 0 := by rw [h2]; rfl
    constructor
    · intro h
      obtain ⟨y, -, rfl⟩ := Finset.mem_map.mp h
      have hy : (y 0).val < 64 := (y 0).isLt
      obtain ⟨a0, a1, -⟩ := dvelY_at (crd p.1.1.1 p.1.1.2) p.1.2 y
      have : blk (crd p.1.1.1 p.1.1.2) p.1.2 = pblk p.1 := rfl
      omega
    · intro h
      refine Finset.mem_map.mpr ⟨at2 (m := 64) (n := 128) ⟨(j 0).val - pblk p.1, by omega⟩ (j 2), Finset.mem_univ _, ?_⟩
      obtain ⟨a0, a1, a2⟩ := dvelY_at (crd p.1.1.1 p.1.1.2) p.1.2 (at2 (m := 64) (n := 128) ⟨(j 0).val - pblk p.1, by omega⟩ (j 2))
      refine ext3 (l := 8192) (m := 2) (n := 128) (a0.trans ?_) (a1.trans (by omega)) a2
      show pblk p.1 + ((j 0).val - pblk p.1) = _
      omega
  · rename_i h2
    have h2' : p.2.val ≠ 0 := fun e => h2 (Fin.ext e)
    constructor
    · intro h
      obtain ⟨y, -, rfl⟩ := Finset.mem_map.mp h
      have hy : (y 0).val < 64 := (y 0).isLt
      obtain ⟨a0, a1, -⟩ := dvelX_at (crd p.1.1.1 p.1.1.2) p.1.2 y
      have : blk (crd p.1.1.1 p.1.1.2) p.1.2 = pblk p.1 := rfl
      omega
    · intro h
      refine Finset.mem_map.mpr ⟨at2 (m := 64) (n := 128) ⟨(j 0).val - pblk p.1, by omega⟩ (j 2), Finset.mem_univ _, ?_⟩
      obtain ⟨a0, a1, a2⟩ := dvelX_at (crd p.1.1.1 p.1.1.2) p.1.2 (at2 (m := 64) (n := 128) ⟨(j 0).val - pblk p.1, by omega⟩ (j 2))
      refine ext3 (l := 8192) (m := 2) (n := 128) (a0.trans ?_) (a1.trans (by omega)) a2
      show pblk p.1 + ((j 0).val - pblk p.1) = _
      omega

/-- Pieces within a block's reach of one another are the same piece. -/
theorem piece_ext {p p' : (Fin 2 × Fin 16) × Fin 4} {n : ℕ} (h : pblk p ≤ n ∧ n < pblk p + 64) (h' : pblk p' ≤ n ∧ n < pblk p' + 64) : p = p' := by
  obtain ⟨⟨c, s⟩, r⟩ := p
  obtain ⟨⟨c', s'⟩, r'⟩ := p'
  have hc := c.isLt; have hc' := c'.isLt; have hr := r.isLt; have hr' := r'.isLt
  unfold pblk at h h'
  dsimp only at h h'
  have e1 : s = s' := Fin.ext (by omega)
  have e2 : c = c' := Fin.ext (by omega)
  have e3 : r = r' := Fin.ext (by omega)
  rw [e1, e2, e3]

/-- The piece of a block. -/
def pieceAt (n : ℕ) (h : n < 8192) : (Fin 2 × Fin 16) × Fin 4 :=
  ((⟨n / 256 % 2, by omega⟩, ⟨n / 512, by omega⟩), ⟨n / 64 % 4, by omega⟩)

/-- The block lies in its piece. -/
theorem pieceAt_mem (n : ℕ) (h : n < 8192) : pblk (pieceAt n h) ≤ n ∧ n < pblk (pieceAt n h) + 64 := by
  unfold pieceAt pblk
  dsimp only
  omega

/-- The pieces of the position derivatives are disjoint -/
theorem dposSet_disjoint : ∀ p ∈ (Finset.univ : Finset ((Fin 2 × Fin 16) × Fin 4)), ∀ p' ∈ (Finset.univ : Finset ((Fin 2 × Fin 16) × Fin 4)),
    p ≠ p' → Disjoint (dposSet p) (dposSet p') := by
  intro p _ p' _ hne
  refine Finset.disjoint_left.mpr fun j h h' => hne ?_
  rw [mem_dposSet] at h h'
  exact piece_ext (n := (j 0).val / 2) (by omega) (by omega)

/-- and are all of it. -/
theorem dposSet_cover : (Finset.univ : Finset ((Fin 2 × Fin 16) × Fin 4)).biUnion dposSet = Finset.univ := by
  ext j
  simp only [Finset.mem_biUnion, Finset.mem_univ, true_and, iff_true]
  have hj : (j 0).val < 16384 := (j 0).isLt
  have := pieceAt_mem ((j 0).val / 2) (by omega)
  exact ⟨pieceAt ((j 0).val / 2) (by omega), (mem_dposSet _ _).mpr (by omega)⟩

/-- The pieces of the accelerations are disjoint -/
theorem dvelSet_disjoint : ∀ p ∈ (Finset.univ : Finset (((Fin 2 × Fin 16) × Fin 4) × Fin 2)), ∀ p' ∈ (Finset.univ : Finset (((Fin 2 × Fin 16) × Fin 4) × Fin 2)),
    p ≠ p' → Disjoint (dvelSet p) (dvelSet p') := by
  intro p _ p' _ hne
  refine Finset.disjoint_left.mpr fun j h h' => hne ?_
  rw [mem_dvelSet] at h h'
  exact Prod.ext (piece_ext (n := (j 0).val) ⟨h.1, h.2.1⟩ ⟨h'.1, h'.2.1⟩) (Fin.ext (by omega))

/-- and are all of it. -/
theorem dvelSet_cover : (Finset.univ : Finset (((Fin 2 × Fin 16) × Fin 4) × Fin 2)).biUnion dvelSet = Finset.univ := by
  ext j
  simp only [Finset.mem_biUnion, Finset.mem_univ, true_and, iff_true]
  have hj : (j 0).val < 8192 := (j 0).isLt
  have hj1 : (j 1).val < 2 := (j 1).isLt
  have := pieceAt_mem (j 0).val hj
  exact ⟨(pieceAt (j 0).val hj, ⟨1 - (j 1).val, by omega⟩), (mem_dvelSet _ _).mpr ⟨this.1, this.2, by show _ + (1 - (j 1).val) = 1; omega⟩⟩

/-- The two results held whole are the tiles' chunks of them, core by core and tile by tile. -/
theorem results_pieces (d : Dev nD) (dp : Buf (Elt F) (dposLoc d)) (dv : Buf (Elt F) (dvelLoc d)) :
    (iprop((dposLoc d ↦{fullShare} dp) ∗ (dvelLoc d ↦{fullShare} dv)) : sProp 𝕄)
      = bigSep Finset.univ fun c : Fin 2 => bigSep Finset.univ fun s : Fin 16 => bigSep Finset.univ fun r : Fin 4 => chunkHole (F := F) d (crd c s) dp dv r := by
  have hp : (dposLoc d ↦{fullShare} dp : sProp 𝕄)
      = bigSep Finset.univ fun p : (Fin 2 × Fin 16) × Fin 4 => dposLoc d ↦[dposSet p]{fullShare} dp := by
    rw [← pointsTo_biUnion Finset.univ (ℓ := dposLoc d) dposSet dposSet_disjoint, dposSet_cover]; try rfl
  have hv : (dvelLoc d ↦{fullShare} dv : sProp 𝕄)
      = bigSep Finset.univ fun p : ((Fin 2 × Fin 16) × Fin 4) × Fin 2 => dvelLoc d ↦[dvelSet p]{fullShare} dv := by
    rw [← pointsTo_biUnion Finset.univ (ℓ := dvelLoc d) dvelSet dvelSet_disjoint, dvelSet_cover]; try rfl
  have hv2 : (bigSep (Finset.univ : Finset (((Fin 2 × Fin 16) × Fin 4) × Fin 2)) fun p => (dvelLoc d ↦[dvelSet p]{fullShare} dv : sProp 𝕄))
      = bigSep (Finset.univ : Finset ((Fin 2 × Fin 16) × Fin 4)) fun p =>
          iprop((dvelLoc d ↦[dvelSet (p, 0)]{fullShare} dv) ∗ (dvelLoc d ↦[dvelSet (p, 1)]{fullShare} dv)) := by
    rw [← Finset.univ_product_univ, SparseCore.bigSep_product]
    refine bigSep_congr fun p _ => ?_
    rw [show (Finset.univ : Finset (Fin 2)) = {0, 1} by decide, SparseCore.bigSep_insert' (by decide), bigSep_singleton]
  rw [hp, hv, hv2, ← bigSep_sep', ← Finset.univ_product_univ, SparseCore.bigSep_product, ← Finset.univ_product_univ, SparseCore.bigSep_product]
  rfl

end Cert.Proof.Fall

end
-- ==== Proof.Tile.lean ====
/-
  A tile's obligation: its own scratch and cells opened for the run, what the launch hands it and takes back, and how
  a core's share is dealt to its tiles.
-/
module

public import proofs.«01_k».proof.Proof.Pieces
public import Idealize.ShloMosaic.Lib.Ring

@[expose] public section

noncomputable section

namespace Cert.Proof.Fall

open Cert.KernelIdeal Cert.KernelIdeal.Gen
open Idealize.ShloMosaic Idealize.ShloMosaic.Tactic
open Idealize.ShloMosaic.SparseCore (S V)
open Idealize.ShloMosaic.SparseCore.Cfg (HIx Pay ownBufs ownSems0 ownCells ownRefs mem_ownCells)
open Idealize.SL Idealize.SL.RA Idealize.SL.BI Idealize.SL.ProofMode
open scoped Idealize.SL.BI
open Idealize.SL.BI.BIBase Idealize.SL.Sem

variable {F : FTy → Type}

local notation "𝕄" => MT nD τ sig (HIx 1) (Elt F) ℕ UU ℕ

/-! ## A tile's own cells and scratch -/

/-- The copies' cells, in the order the program numbers them. -/
def copyCell (d : Dev nD) (i : grid0.Coords) (k : Fin 12) : GSem nD τ sig := (tileOf d i, .dma ⟨k.val, by show k.val < 14; omega⟩)

/-- Each is one of the tile's own. -/
theorem copyCell_mem (d : Dev nD) (i : grid0.Coords) (k : Fin 12) : copyCell d i k ∈ ownCells (tileOf d i) :=
  mem_ownCells.mpr ⟨rfl, (show ∀ k : Fin 12, (SemLoc.dma (sig := sig) ⟨k.val, by show k.val < 14; omega⟩).isScoped .scVector = true by decide) k⟩

/-- The tile's own cells at zero: the copies' and the rest. -/
theorem ownSems0_tile (d : Dev nD) (i : grid0.Coords) :
    (ownSems0 (tileOf d i) : sProp 𝕄)
      = iprop(tileCells (F := F) d i ∗ bigSep ((ownCells (tileOf d i)) \ Finset.univ.image (copyCell d i)) fun g => semVal g 0) := by
  unfold SparseCore.Cfg.ownSems0
  rw [SparseCore.bigSep_sdiff_split' (t := Finset.univ.image (copyCell d i)) (Finset.image_subset_iff.mpr fun k _ => copyCell_mem d i k),
    SparseCore.bigSep_image_of_injOn (fun a _ b _ h => by
      have := congrArg (fun g : GSem nD τ sig => g.2) h
      simp only [copyCell, SemLoc.dma.injEq, Fin.mk.injEq] at this; exact Fin.ext this)]
  rw [show (Finset.univ : Finset (Fin 12)) = {0, 1, 2, 3, 4, 5, 6, 7, 8, 9, 10, 11} by decide]
  iterate 11 rw [SparseCore.bigSep_insert' (by decide)]
  rw [bigSep_singleton]
  rfl

/-- Scratch array `k` of a tile. -/
def scr : Fin 4 → Ref sig .scVector := ![cc0_scratch0, cc0_scratch1, cc0_scratch2, cc0_scratch3]

/-- The four are different arrays. -/
theorem scr_inj : Function.Injective scr := by decide

/-- The tile's own scratch: the four arrays, at some contents, and the rest. -/
theorem ownBufs_tile (d : Dev nD) (i : grid0.Coords) :
    (ownBufs (tileOf d i) : sProp 𝕄)
      = iprop(((∃ f, (tileOf d i).loc cc0_scratch0 ↦{fullShare} f) ∗ (∃ f, (tileOf d i).loc cc0_scratch1 ↦{fullShare} f)
          ∗ (∃ f, (tileOf d i).loc cc0_scratch2 ↦{fullShare} f) ∗ (∃ f, (tileOf d i).loc cc0_scratch3 ↦{fullShare} f))
          ∗ bigSep ((ownRefs (τ := τ) (tileOf d i).2) \ Finset.univ.image fun k => (tileOf d i).2.devRef (scr k)) fun b => iprop(∃ f, ((d, b) : Loc nD τ sig) ↦{fullShare} f)) := by
  unfold SparseCore.Cfg.ownBufs
  rw [SparseCore.bigSep_sdiff_split' (t := Finset.univ.image fun k => (tileOf d i).2.devRef (scr k)) (Finset.image_subset_iff.mpr fun k _ =>
      SparseCore.Cfg.mem_ownRefs_of_owner (p := (tileOf d i).2) (b := (tileOf d i).2.devRef (scr k)) (by fin_cases k <;> rfl)),
    SparseCore.bigSep_image_of_injOn (fun a _ b _ h => scr_inj (Proc.devRef_injective _ h))]
  rw [show (Finset.univ : Finset (Fin 4)) = {0, 1, 2, 3} by decide]
  iterate 3 rw [SparseCore.bigSep_insert' (by decide)]
  rw [bigSep_singleton]
  rfl

/-! ## Slots -/

/-- The two slots of a scratch array fit. -/
theorem slot_inb (n : ℕ) (j : Fin 2) : ∀ a, (![j.val, 0, 0] : Fin 3 → ℕ) a + (⟨3, ![1, n, 128]⟩ : Shape).size a ≤ (⟨3, ![2, n, 128]⟩ : Shape).size a := by
  have := j.isLt; intro a; fin_cases a <;> simp <;> omega

/-- Slot `j` of a double-buffered array. -/
def slotSet (n : ℕ) (j : Fin 2) : Finset (⟨3, ![2, n, 128]⟩ : Shape).Idx := (Rect.unit (s := ⟨3, ![2, n, 128]⟩) ![j.val, 0, 0] (⟨3, ![1, n, 128]⟩ : Shape).size (slot_inb n j)).set

/-- The two slots are disjoint -/
theorem slots_disjoint (n : ℕ) (j j' : Fin 2) (h : j ≠ j') : Disjoint (slotSet n j) (slotSet n j') :=
  Ring.lead_disjoint (s := ⟨3, ![2, n, 128]⟩) (0 : Fin 3) 1 (fun j : Fin 2 => (![j.val, 0, 0] : Fin 3 → ℕ)) (⟨3, ![1, n, 128]⟩ : Shape).size (slot_inb n) (fun j => by simp) rfl j j' h

/-- and are all of the array. -/
theorem slots_cover (n : ℕ) : Finset.univ.biUnion (slotSet n) = Finset.univ :=
  Ring.lead_cover (s := ⟨3, ![2, n, 128]⟩) (0 : Fin 3) 1 (fun j : Fin 2 => (![j.val, 0, 0] : Fin 3 → ℕ)) (⟨3, ![1, n, 128]⟩ : Shape).size (slot_inb n) (fun j => by simp)
    (fun j a ha => by fin_cases a <;> first | exact absurd rfl ha | rfl) rfl (fun a ha => by fin_cases a <;> first | exact absurd rfl ha | rfl) rfl

/-- The elements of the slots as the program slices them. -/
theorem y0_set : y0.view.set = slotSet 64 0 := (View.set_reshape _ _).trans (View.set_slice_whole _ _)
theorem y1_set : y1.view.set = slotSet 64 1 := (View.set_reshape _ _).trans (View.set_slice_whole _ _)
theorem v0_set : v0.view.set = slotSet 128 0 := (View.set_reshape _ _).trans (View.set_slice_whole _ _)
theorem v1_set : v1.view.set = slotSet 128 1 := (View.set_reshape _ _).trans (View.set_slice_whole _ _)
theorem d0_set : d0.view.set = slotSet 64 0 := (View.set_reshape _ _).trans (View.set_slice_whole _ _)
theorem d1_set : d1.view.set = slotSet 64 1 := (View.set_reshape _ _).trans (View.set_slice_whole _ _)

/-- The scratch arrays, whole, are their slots, -/
theorem slots_in (d : Dev nD) (i : grid0.Coords) :
    (iprop((∃ f, (tileOf d i).loc cc0_scratch0 ↦{fullShare} f) ∗ (∃ f, (tileOf d i).loc cc0_scratch1 ↦{fullShare} f)
      ∗ (∃ f, (tileOf d i).loc cc0_scratch2 ↦{fullShare} f) ∗ (∃ f, (tileOf d i).loc cc0_scratch3 ↦{fullShare} f)) : sProp 𝕄)
      ⊢ tileSlots (F := F) d i := by
  unfold tileSlots heldAny
  iintro ⟨Hy, Hv, Hd, Hz⟩
  ihave Hy := (Ring.slots2_split (U := UU) (ℓ := (tileOf d i).loc cc0_scratch0) (q := fullShare) (slotSet 64) (slots_disjoint 64) (slots_cover 64)
    (fun f => y0.view.loc (tileOf d i) ↦[y0.view.set]{fullShare} f) (fun f => y1.view.loc (tileOf d i) ↦[y1.view.set]{fullShare} f)
    (fun f => by rw [y0_set]) (fun f => by rw [y1_set])) $$ Hy
  ihave Hv := (Ring.slots2_split (U := UU) (ℓ := (tileOf d i).loc cc0_scratch1) (q := fullShare) (slotSet 128) (slots_disjoint 128) (slots_cover 128)
    (fun f => v0.view.loc (tileOf d i) ↦[v0.view.set]{fullShare} f) (fun f => v1.view.loc (tileOf d i) ↦[v1.view.set]{fullShare} f)
    (fun f => by rw [v0_set]) (fun f => by rw [v1_set])) $$ Hv
  ihave Hd := (Ring.slots2_split (U := UU) (ℓ := (tileOf d i).loc cc0_scratch2) (q := fullShare) (slotSet 64) (slots_disjoint 64) (slots_cover 64)
    (fun f => d0.view.loc (tileOf d i) ↦[d0.view.set]{fullShare} f) (fun f => d1.view.loc (tileOf d i) ↦[d1.view.set]{fullShare} f)
    (fun f => by rw [d0_set]) (fun f => by rw [d1_set])) $$ Hd
  icases Hy with ⟨Hy0, Hy1⟩
  icases Hv with ⟨Hv0, Hv1⟩
  icases Hd with ⟨Hd0, Hd1⟩
  isplitl [Hy0]; · iexact Hy0
  isplitl [Hy1]; · iexact Hy1
  isplitl [Hv0]; · iexact Hv0
  isplitl [Hv1]; · iexact Hv1
  isplitl [Hd0]; · iexact Hd0
  isplitl [Hd1]; · iexact Hd1
  rw [show zW.view.set = Finset.univ from View.set_whole _]
  iexact Hz

/-- and back. -/
theorem slots_out (d : Dev nD) (i : grid0.Coords) :
    (tileSlots (F := F) d i : sProp 𝕄)
      ⊢ iprop((∃ f, (tileOf d i).loc cc0_scratch0 ↦{fullShare} f) ∗ (∃ f, (tileOf d i).loc cc0_scratch1 ↦{fullShare} f)
      ∗ (∃ f, (tileOf d i).loc cc0_scratch2 ↦{fullShare} f) ∗ (∃ f, (tileOf d i).loc cc0_scratch3 ↦{fullShare} f)) := by
  unfold tileSlots heldAny
  iintro ⟨Hy0, Hy1, Hv0, Hv1, Hd0, Hd1, Hz⟩
  isplitl [Hy0 Hy1]
  · iapply (Ring.slots2_join (U := UU) (ℓ := (tileOf d i).loc cc0_scratch0) (q := fullShare) (slotSet 64) (slots_disjoint 64) (slots_cover 64)
      (fun f => y0.view.loc (tileOf d i) ↦[y0.view.set]{fullShare} f) (fun f => y1.view.loc (tileOf d i) ↦[y1.view.set]{fullShare} f)
      (fun f => by rw [y0_set]) (fun f => by rw [y1_set]))
    isplitl [Hy0]
    · iexact Hy0
    · iexact Hy1
  isplitl [Hv0 Hv1]
  · iapply (Ring.slots2_join (U := UU) (ℓ := (tileOf d i).loc cc0_scratch1) (q := fullShare) (slotSet 128) (slots_disjoint 128) (slots_cover 128)
      (fun f => v0.view.loc (tileOf d i) ↦[v0.view.set]{fullShare} f) (fun f => v1.view.loc (tileOf d i) ↦[v1.view.set]{fullShare} f)
      (fun f => by rw [v0_set]) (fun f => by rw [v1_set]))
    isplitl [Hv0]
    · iexact Hv0
    · iexact Hv1
  isplitl [Hd0 Hd1]
  · iapply (Ring.slots2_join (U := UU) (ℓ := (tileOf d i).loc cc0_scratch2) (q := fullShare) (slotSet 64) (slots_disjoint 64) (slots_cover 64)
      (fun f => d0.view.loc (tileOf d i) ↦[d0.view.set]{fullShare} f) (fun f => d1.view.loc (tileOf d i) ↦[d1.view.set]{fullShare} f)
      (fun f => by rw [d0_set]) (fun f => by rw [d1_set]))
    isplitl [Hd0]
    · iexact Hd0
    · iexact Hd1
  rw [show zW.view.set = Finset.univ from View.set_whole _]
  iexact Hz

/-! ## What the launch hands over -/

section Launch

/-- The operands' contents, on every device. -/
structure Inp (F : FTy → Type) where
  pos : (d : Dev nD) → Buf (Elt F) (posLoc d)
  vel : (d : Dev nD) → Buf (Elt F) (velLoc d)
  dia : (d : Dev nD) → Buf (Elt F) (diaLoc d)

variable (X : Inp F)

/-- The operands at a share. -/
def opsAt (d : Dev nD) (q : PosShare TreeShare) : sProp 𝕄 :=
  iprop((posLoc d ↦{q} X.pos d) ∗ (velLoc d ↦{q} X.vel d) ∗ (diaLoc d ↦{q} X.dia d))

/-- Core `c`'s share of the operands. -/
def coreSh (c : Fin 2) : PosShare TreeShare := Transfers.shareTok fullShare 2 c
/-- Tile `s` of core `c`'s share of the operands. -/
def tileSh (c : Fin 2) (s : Fin 16) : PosShare TreeShare := Transfers.shareTok (coreSh c) 16 s

/-- A tile's chunks of the results. -/
def tileHole (d : Dev nD) (c : Fin 2) (s : Fin 16) (dp : Buf (Elt F) (dposLoc d)) (dv : Buf (Elt F) (dvelLoc d)) : sProp 𝕄 :=
  bigSep Finset.univ fun r : Fin 4 => chunkHole (F := F) d (crd c s) dp dv r

instance (d : Dev nD) (q : PosShare TreeShare) : BI.Storable (upEmb : UEmb _ 𝕄) (opsAt X d q) := by unfold opsAt; infer_instance
instance (d : Dev nD) (c : Fin 2) (s : Fin 16) (dp : Buf (Elt F) (dposLoc d)) (dv : Buf (Elt F) (dvelLoc d)) :
    BI.Storable (upEmb : UEmb _ 𝕄) (tileHole d c s dp dv) := by unfold tileHole chunkHole; infer_instance

variable [FloatOps F]

/-- The whole position derivatives of the operands. -/
def dposVal (d : Dev nD) : Buf (Elt F) (dposLoc d) := dposOut (X.pos d) (X.vel d) (X.dia d)
/-- The whole accelerations of the operands. -/
def dvelVal (d : Dev nD) : Buf (Elt F) (dvelLoc d) := dvelOut (X.pos d) (X.dia d)

/-- What a core is handed: its share of the operands, its tiles' chunks of the results. -/
def coreIn (d : Dev nD) (c : Fin 2) : sProp 𝕄 :=
  iprop(opsAt X d (coreSh c) ∗ ∃ dp dv, bigSep Finset.univ fun s : Fin 16 => tileHole (F := F) d c s dp dv)
/-- What it hands back: the same, the results computed. -/
def coreOut (d : Dev nD) (c : Fin 2) : sProp 𝕄 :=
  iprop(opsAt X d (coreSh c) ∗ bigSep Finset.univ fun s : Fin 16 => tileHole (F := F) d c s (dposVal X d) (dvelVal X d))
/-- What a tile is handed. -/
def tilePre (d : Dev nD) (c : Fin 2) (s : Fin 16) : sProp 𝕄 := iprop(opsAt X d (tileSh c s) ∗ ∃ dp dv, tileHole (F := F) d c s dp dv)
/-- What it hands back. -/
def tilePost (d : Dev nD) (c : Fin 2) (s : Fin 16) : sProp 𝕄 := iprop(opsAt X d (tileSh c s) ∗ tileHole (F := F) d c s (dposVal X d) (dvelVal X d))

instance (d : Dev nD) (c : Fin 2) : BI.Storable (upEmb : UEmb _ 𝕄) (coreIn X d c) := by unfold coreIn; infer_instance
instance (d : Dev nD) (c : Fin 2) : BI.Storable (upEmb : UEmb _ 𝕄) (coreOut X d c) := by unfold coreOut; infer_instance
instance (d : Dev nD) (c : Fin 2) (s : Fin 16) : BI.Storable (upEmb : UEmb _ 𝕄) (tilePre X d c s) := by unfold tilePre; infer_instance
instance (d : Dev nD) (c : Fin 2) (s : Fin 16) : BI.Storable (upEmb : UEmb _ 𝕄) (tilePost X d c s) := by unfold tilePost; infer_instance

/-- What the call's handshakes carry. -/
def P : (K (F := F)).Pay (nD := nD) (Val := Elt F) (Name := ℕ) (U := UU) where
  st := fun q d c => match q with | 0 => coreIn X d c
  dn := fun q d c => match q with | 0 => coreOut X d c
  go := fun q d c s => match q with | 0 => tilePre X d c s
  td := fun q d c s => match q with | 0 => tilePost X d c s
  x := fun _ _ => iprop(emp)

instance P_storable : (P X).IsStorable where
  st q d c := match q with | 0 => (inferInstance : BI.Storable (upEmb : UEmb _ 𝕄) (coreIn X d c))
  dn q d c := match q with | 0 => (inferInstance : BI.Storable (upEmb : UEmb _ 𝕄) (coreOut X d c))
  go q d c s := match q with | 0 => (inferInstance : BI.Storable (upEmb : UEmb _ 𝕄) (tilePre X d c s))
  td q d c s := match q with | 0 => (inferInstance : BI.Storable (upEmb : UEmb _ 𝕄) (tilePost X d c s))

/-! ## The tile -/

/-- The operands as a tile addresses them. -/
theorem tileIn_eq (d : Dev nD) (i : grid0.Coords) (q : PosShare TreeShare) :
    (tileIn (F := F) d i q (X.pos d) (X.vel d) (X.dia d) : sProp 𝕄) = opsAt X d q := by
  unfold tileIn opsAt
  rfl

omit [FloatOps F] in
/-- Four chunks, one by one. -/
theorem chunks4 (Φ : Fin 4 → sProp 𝕄) : bigSep Finset.univ Φ = iprop(Φ 0 ∗ Φ 1 ∗ Φ 2 ∗ Φ 3) := by
  rw [show (Finset.univ : Finset (Fin 4)) = {0, 1, 2, 3} by decide]
  iterate 3 rw [SparseCore.bigSep_insert' (by decide)]
  rw [bigSep_singleton]

/-- The tile's body, from what the launch hands it to what it takes back. -/
theorem tile_body (d : Dev nD) (c : Fin 2) (s : Fin 16) (O : CellTallies nD τ sig (HIx 1)) (W : Waits sig (HIx 1)) (hO : ∀ g, O g none = 0) :
    (iprop(levAts (K (F := F)).L (K (F := F)).lev ∗ emp ∗ tilePre X d c s
        ∗ scopedBufs (tileOf d (crd c s)) ∗ scopedSems0 (tileOf d (crd c s)) ∗ owes (tileOf d (crd c s)) O W) : sProp 𝕄)
      ⊢ wp frame (wpE (defs₀ (F := F)) 𝒱₀ (tileOf d (crd c s)) none) Set.univ
          (cc0__sc_body (crd c s) posW (Memref.isWhole_whole _) velW (Memref.isWhole_whole _) diaW (Memref.isWhole_whole _)
            dposW (Memref.isWhole_whole _) dvelW (Memref.isWhole_whole _) yW (Memref.isWhole_whole _) vW (Memref.isWhole_whole _)
            dW (Memref.isWhole_whole _) zW (Memref.isWhole_whole _)
            cc0_scratch4 cc0_scratch5 cc0_scratch6 cc0_scratch7 cc0_scratch8 cc0_scratch9) fun _ =>
        iprop(tilePost X d c s ∗ scopedBufs (tileOf d (crd c s)) ∗ scopedSems0 (tileOf d (crd c s))
          ∗ ∃ W', ⌜∀ p ∈ W', p ∈ W ∨ p.2 = none⌝ ∗ owes (tileOf d (crd c s)) O W') := by
  have hb : (scopedBufs (tileOf d (crd c s)) : sProp 𝕄) = ownBufs (tileOf d (crd c s)) := (K (F := F)).scopedBufs_V facts d _ _
  have hs : (scopedSems0 (tileOf d (crd c s)) : sProp 𝕄) = ownSems0 (tileOf d (crd c s)) := SparseCore.Cfg.scopedSems0_V (Val := Elt F) d _ _
  rw [hb, hs, ownSems0_tile, ownBufs_tile]
  unfold tilePre tilePost tileHole
  rw [← tileIn_eq X d (crd c s)]
  iintro ⟨#Hlv, -, ⟨Hin, %dp, %dv, Hh⟩, ⟨Hb, Hbr⟩, ⟨Hs, Hsr⟩, HO⟩
  ihave Hmw := ((K (F := F)).mayWaits_none (thr := tileOf d (crd c s)) hO) $$ Hlv
  ihave Hb := (slots_in (F := F) d (crd c s)) $$ Hb
  ihave Hh := (Entails.of_eq (chunks4 (F := F) fun r => chunkHole (F := F) d (crd c s) dp dv r)) $$ Hh
  icases Hh with ⟨Hh0, Hh1, Hh2, Hh3⟩
  iapply (wp_wand_r Idealize.ShloMosaic.frame (wpE (defs₀ (F := F)) 𝒱₀ (tileOf d (crd c s)) none))
  isplitr [Hbr Hsr]
  · iapply (tile_run (F := F) d (crd c s) O W (X.pos d) (X.vel d) (X.dia d) (tileSh c s) dp dv)
    isplitl [Hmw]; · iexact Hmw
    isplitl [Hin]; · iexact Hin
    isplitl [Hb]; · iexact Hb
    isplitl [Hh0]; · iexact Hh0
    isplitl [Hh1]; · iexact Hh1
    isplitl [Hh2]; · iexact Hh2
    isplitl [Hh3]; · iexact Hh3
    isplitl [Hs]; · iexact Hs
    iexact HO
  iintro %_ ⟨Hin, Hb, H0, H1, H2, H3, Hs, HW⟩
  ihave Hb := (slots_out (F := F) d (crd c s)) $$ Hb
  isplitl [Hin H0 H1 H2 H3]
  · isplitl [Hin]; · iexact Hin
    rw [chunks4]
    isplitl [H0]; · iapply (chunkOut_whole (F := F) d (crd c s)); iexact H0
    isplitl [H1]; · iapply (chunkOut_whole (F := F) d (crd c s)); iexact H1
    isplitl [H2]; · iapply (chunkOut_whole (F := F) d (crd c s)); iexact H2
    iapply (chunkOut_whole (F := F) d (crd c s)); iexact H3
  isplitl [Hb Hbr]
  · isplitl [Hb]
    · iexact Hb
    · iexact Hbr
  isplitl [Hs Hsr]
  · isplitl [Hs]
    · iexact Hs
    · iexact Hsr
  iexact HW

end Launch

end Cert.Proof.Fall

end
-- ==== Proof.Deal.lean ====
/-
  The launch's obligations for the SparseCore call: a tile's task, how a core deals its share to its tiles, and how
  the TensorCore deals the whole arrays to the cores and takes them back.
-/
module

public import proofs.«01_k».proof.Proof.Tile

@[expose] public section

noncomputable section

namespace Cert.Proof.Fall

open Cert.KernelIdeal Cert.KernelIdeal.Gen
open Idealize.ShloMosaic Idealize.ShloMosaic.Tactic
open Idealize.ShloMosaic.SparseCore (S V)
open Idealize.ShloMosaic.SparseCore.Cfg (HIx Pay)
open Idealize.SL Idealize.SL.RA Idealize.SL.BI Idealize.SL.ProofMode
open scoped Idealize.SL.BI
open Idealize.SL.BI.BIBase Idealize.SL.Sem

variable {F : FTy → Type}

local notation "𝕄" => MT nD τ sig (HIx 1) (Elt F) ℕ UU ℕ

variable (X : Inp F)

/-- The operands at a share are cut into a remainder and `n` equal pieces. -/
theorem ops_cut (d : Dev nD) (q : PosShare TreeShare) (n : ℕ) :
    (opsAt X d q : sProp 𝕄) ⊢ iprop(opsAt X d (Transfers.shareDrop q n) ∗ bigSep Finset.univ fun i : Fin n => opsAt X d (Transfers.shareTok q n i)) := by
  unfold opsAt
  rw [bigSep_sep', bigSep_sep']
  iintro ⟨Hp, Hv, Hg⟩
  ihave Hp := (Transfers.pointsTo_toks_split q n) $$ Hp
  ihave Hv := (Transfers.pointsTo_toks_split q n) $$ Hv
  ihave Hg := (Transfers.pointsTo_toks_split q n) $$ Hg
  icases Hp with ⟨Hp, Hp'⟩
  icases Hv with ⟨Hv, Hv'⟩
  icases Hg with ⟨Hg, Hg'⟩
  isplitl [Hp Hv Hg]
  · isplitl [Hp]; · iexact Hp
    isplitl [Hv] <;> iassumption
  isplitl [Hp']; · iexact Hp'
  isplitl [Hv'] <;> iassumption

/-- And joined again from them. -/
theorem ops_join (d : Dev nD) (q : PosShare TreeShare) (n : ℕ) :
    iprop(opsAt X d (Transfers.shareDrop q n) ∗ bigSep Finset.univ fun i : Fin n => opsAt X d (Transfers.shareTok q n i)) ⊢ (opsAt X d q : sProp 𝕄) := by
  unfold opsAt
  rw [bigSep_sep', bigSep_sep']
  iintro ⟨⟨Hp, Hv, Hg⟩, Hp', Hv', Hg'⟩
  isplitl [Hp Hp']
  · iapply (Transfers.pointsTo_toks_join q n); isplitl [Hp] <;> iassumption
  isplitl [Hv Hv']
  · iapply (Transfers.pointsTo_toks_join q n); isplitl [Hv] <;> iassumption
  iapply (Transfers.pointsTo_toks_join q n); isplitl [Hg] <;> iassumption

variable [FloatOps F]

/-- A core deals its share of the operands and its tiles' chunks to the tiles, and has the results from theirs. -/
theorem vecSplit : (K (F := F)).VecSplit' (P X) 0 := by
  intro d c
  show coreIn X d c ⊢ |={Set.univ}=> iprop((bigSep Finset.univ fun s : Fin 16 => tilePre X d c s)
    ∗ ((bigSep Finset.univ fun s : Fin 16 => tilePost X d c s) -∗ coreOut X d c))
  unfold coreIn coreOut tilePost
  rw [bigSep_sep']
  iintro ⟨Hops, %dp, %dv, Hh⟩
  ihave Hops := (ops_cut X d (coreSh c) 16) $$ Hops
  icases Hops with ⟨Hrest, Hops⟩
  imodintro
  isplitl [Hops Hh]
  · iapply (show iprop((bigSep Finset.univ fun s : Fin 16 => opsAt X d (tileSh c s)) ∗ bigSep Finset.univ fun s : Fin 16 => tileHole (F := F) d c s dp dv)
        ⊢ (bigSep Finset.univ fun s : Fin 16 => tilePre X d c s : sProp 𝕄) from by
      rw [← bigSep_sep']
      refine BI.bigSep_mono fun s _ => ?_
      unfold tilePre
      show iprop(opsAt X d (tileSh c s) ∗ tileHole (F := F) d c s dp dv) ⊢ iprop(opsAt X d (tileSh c s) ∗ ∃ dp dv, tileHole (F := F) d c s dp dv)
      iintro ⟨Ha, Hb⟩
      isplitl [Ha]; · iexact Ha
      iexists dp, dv; iexact Hb)
    isplitl [Hops]; · iexact Hops
    iexact Hh
  iintro ⟨Hops, Hh⟩
  isplitl [Hrest Hops]
  · iapply (ops_join X d (coreSh c) 16)
    isplitl [Hrest]; · iexact Hrest
    iexact Hops
  iexact Hh

/-- What the launch runs on a tile is the kernel at its coordinates. -/
theorem defs₀_vector (c : Fin τ.nSC) (s : Fin τ.nSub) :
    defs₀ (F := F) (.scVector c s) 0 () = SparseCore.onTile hcore0 hsub0 (fun c s =>
      cc0__sc_body (crd c s) posW (Memref.isWhole_whole _) velW (Memref.isWhole_whole _) diaW (Memref.isWhole_whole _)
            dposW (Memref.isWhole_whole _) dvelW (Memref.isWhole_whole _) yW (Memref.isWhole_whole _) vW (Memref.isWhole_whole _)
            dW (Memref.isWhole_whole _) zW (Memref.isWhole_whole _)
            cc0_scratch4 cc0_scratch5 cc0_scratch6 cc0_scratch7 cc0_scratch8 cc0_scratch9) ⟨⟩ c s := rfl

/-- A task that records waits on its own copies only records none of the call's. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's task is the kernel's body on it. -/
theorem tileObl : (K (F := F)).TileObl (D (F := F)) 𝒱 (P X) v₀ 0 := by
  intro d c i O W hO _ _
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body X d c i O W hO).trans (wp_mono frame _ _ fun _ => waits_weaken)

/-! ## The whole arrays, as the cores are handed them -/

/-- From the operands and the results whole, what the call takes, and the operands' remainder. -/
theorem deal (d : Dev nD) (dp : Buf (Elt F) (dposLoc d)) (dv : Buf (Elt F) (dvelLoc d)) :
    iprop(opsAt X d fullShare ∗ (dposLoc d ↦{fullShare} dp) ∗ (dvelLoc d ↦{fullShare} dv))
      ⊢ (iprop(opsAt X d (Transfers.shareDrop fullShare 2)
          ∗ bigSep Finset.univ fun c : Fin ((K (F := F)).nCore 0) => (P X).st 0 d c) : sProp 𝕄) := by
  show _ ⊢ iprop(_ ∗ bigSep Finset.univ fun c : Fin 2 => coreIn X d c)
  rw [results_pieces d dp dv]
  iintro ⟨Hops, Hh⟩
  ihave Hops := (ops_cut X d fullShare 2) $$ Hops
  icases Hops with ⟨Hrest, Hops⟩
  isplitl [Hrest]; · iexact Hrest
  iapply (show iprop((bigSep Finset.univ fun c : Fin 2 => opsAt X d (coreSh c))
        ∗ bigSep Finset.univ fun c : Fin 2 => bigSep Finset.univ fun s : Fin 16 => tileHole (F := F) d c s dp dv)
      ⊢ (bigSep Finset.univ fun c : Fin 2 => coreIn X d c : sProp 𝕄) from by
    rw [← bigSep_sep']
    refine BI.bigSep_mono fun c _ => ?_
    unfold coreIn
    show iprop(opsAt X d (coreSh c) ∗ bigSep Finset.univ fun s : Fin 16 => tileHole (F := F) d c s dp dv)
      ⊢ iprop(opsAt X d (coreSh c) ∗ ∃ dp dv, bigSep Finset.univ fun s : Fin 16 => tileHole (F := F) d c s dp dv)
    iintro ⟨Ha, Hb⟩
    isplitl [Ha]; · iexact Ha
    iexists dp, dv; iexact Hb)
  isplitl [Hops]; · iexact Hops
  iexact Hh

/-- From that remainder and what the call hands back, the operands whole and the results whole, computed. -/
theorem gather (d : Dev nD) :
    iprop(opsAt X d (Transfers.shareDrop fullShare 2) ∗ bigSep Finset.univ fun c : Fin ((K (F := F)).nCore 0) => (P X).dn 0 d c)
      ⊢ (iprop(opsAt X d fullShare ∗ (dposLoc d ↦{fullShare} dposVal X d) ∗ (dvelLoc d ↦{fullShare} dvelVal X d)) : sProp 𝕄) := by
  show iprop(_ ∗ bigSep Finset.univ fun c : Fin 2 => coreOut X d c) ⊢ _
  rw [results_pieces d (dposVal X d) (dvelVal X d)]
  unfold coreOut
  rw [bigSep_sep']
  iintro ⟨Hrest, Hops, Hh⟩
  isplitl [Hrest Hops]
  · iapply (ops_join X d fullShare 2)
    isplitl [Hrest]; · iexact Hrest
    iexact Hops
  iexact Hh

end Cert.Proof.Fall

end
-- ==== Proof.Region.lean ====
/-
  The TensorCore's kernel: a pipeline of one output window over a grid of 32 points, whose body stores a block of
  zeros. Its body, its proof data, and the region of @main it makes: from the result's array at anything to the
  array at zero, the core owing nothing throughout and recording no wait above the SparseCore call's own levels.
-/
module

public import proofs.«01_k».proof.Proof.Deal
public import Idealize.ShloMosaic.Lib.VecWindow
public import Idealize.ShloMosaic.Lib.Pipeline.ValueKit

@[expose] public section

noncomputable section

namespace Cert.Proof.Fall

open Cert.KernelIdeal Cert.KernelIdeal.Gen
open Idealize.ShloMosaic
open Idealize.ShloMosaic.TcCoe Idealize.ShloMosaic.Tactic
open Idealize.ShloMosaic.Rounds
open Idealize.ShloMosaic.SparseCore.Cfg (HIx Pay)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The body -/

/-- The whole-block rectangle starts at the origin. -/
theorem origin2 : (![0, 0] : Fin 2 → Nat) = fun _ => 0 := funext fun a => by fin_cases a <;> rfl

/-- A block of zeros. -/
abbrev zeroBlk : S256x128.Idx → Elt F .f32 := fun _ => zeroF

/-- The block the body stores is all zero. -/
theorem payload_zero : (k1_pay1 : FVec F S256x128 .f32) = zeroBlk := rfl

/-- The body run on any staging buffer that is a whole buffer: what it leaves there, whatever was there. -/
noncomputable def zeroRun (c : Dev nD) (i : grid1.Coords) (M : Memref sig .tc .vmem S256x128 .f32) (h : M.IsWhole)
    (f : Buf (Elt F) (M.view.loc (c : Thread nD τ))) :
    { W : Buf (Elt F) (M.view.loc (c : Thread nD τ)) // ∀ Q : PUnit → sProp 𝕄,
        iprop((M.view.loc (c : Thread nD τ) ↦{fullShare} f) ∗ ((M.view.loc (c : Thread nD τ) ↦{fullShare} W) -∗ Q ⟨⟩))
          ⊢ wp frame (wpE (defs₀ (F := F)) 𝒱₀ c none) Set.univ (cc1__tc_body i M h) Q } := by
  refine ⟨?_, fun Q => ?run⟩
  case run =>
    rw [cc1__tc_body_eq_skeleton]
    unfold cc1__tc_body_skel
    iintro ⟨H, Hk⟩
    sl_exec!
    sl_step
    iapply Hk
    iexact H

/-- What the body leaves there is the block of zeros. -/
theorem zeroRun_read (c : Dev nD) (i : grid1.Coords) (M : Memref sig .tc .vmem S256x128 .f32) (h : M.IsWhole)
    (f : Buf (Elt F) (M.view.loc (c : Thread nD τ))) :
    M.view.read (Elt F) (zeroRun c i M h f).1 = zeroBlk := by
  unfold zeroRun
  exact View.read_writes_full M.view _ inb_S256x128_S256x128_0_0 _ _

/-- The body of the TensorCore kernel on a whole buffer of the right shape: whatever it held, it ends a block of zeros. -/
theorem zero_body_whole (c : Dev nD) (i : grid1.Coords) (M : Memref sig .tc .vmem S256x128 .f32) (h : M.IsWhole)
    (X : S256x128.Idx → Elt F .f32) (Q : PUnit → sProp 𝕄) :
    iprop(owns (c : Thread nD τ) M fullShare X ∗ (owns (c : Thread nD τ) M fullShare (zeroBlk (F := F)) -∗ Q ⟨⟩))
      ⊢ wp frame (wpE (defs₀ (F := F)) 𝒱₀ c none) Set.univ (cc1__tc_body i M h) Q := by
  unfold owns
  rw [h.set_eq_univ]
  iintro ⟨⟨%f, -, H⟩, Hk⟩
  iapply ((zeroRun c i M h f).2 Q)
  isplitl [H]; · iexact H
  iintro H
  iapply Hk
  iexists _; isplitr; swap; (· iexact H)
  ipureintro
  exact zeroRun_read c i M h f

/-! ## The proof data -/

/-- Where the result of the TensorCore kernel lies. -/
abbrev zLoc (d : Dev nD) : Loc nD τ sig := (SparseCore.T d).loc main_v7

variable (f₀ : (d : Dev nD) → Buf (Elt F) (zLoc d))

/-- The own waits the core may have recorded when the SparseCore call is over: those at the call's levels. -/
def waitedSet (c : Dev nD) : Set (SemLoc sig × HIx 1) :=
  {p | (K (F := F)).lev (SparseCore.T c, p.1) p.2 ≤ 8 * (inferInstance : SparseCore.Cfg.Blocks 1 1).fst 1}

/-- The proof data of the zero fill: the array at anything, each block left at zero, nothing carried between points
    but the scoped buffers no window stages, nothing owed. -/
def zdat (c : Dev nD) : Dat τ (Elt F) (HIx 1) ℕ UU ℕ cfg1 c where
  A w := match w with
    | ⟨0, _⟩ => f₀ c
  after w _ := match w with
    | ⟨0, _⟩ => zeroBlk
  Φ _ := Pipeline.scopedRest (Ix := HIx 1) (Name := ℕ) (U := UU) (Lvl := ℕ) (Val := Elt F) spec1 c
  q _ := fullShare
  owed _ := 0
  recorded _ := waitedSet (F := F) c

/-- The family the region takes: the program has one pipeline. -/
def zdats : (p : Fin 1) → (c : Dev nD) →
    Dat τ (Elt F) (HIx 1) ℕ UU ℕ (Pipeline.pin (pcfgs (F := F)) (fun p => (cfgs p).toPCfg_adm) p) c
  | ⟨0, _⟩ => fun c => zdat f₀ c

/-- The body keeps the proof data's promises at every point. -/
theorem body_obligation (c : Dev nD) : BodyObligation (zdat f₀ c) (defs₀ (F := F)) 𝒱₀ none Set.univ := fun t => by
  rw [bigSep_W1, bigSep_W1]
  rw [show (zdat f₀ c).owesAt none t.succ = (zdat f₀ c).owesAt none t.castSucc from rfl,
    show (zdat f₀ c).Φ t.succ = (zdat f₀ c).Φ t.castSucc from rfl]
  iintro ⟨HΦ, Howes, ⟨%e, H⟩⟩
  iapply (zero_body_whole c (grid1.coords t) (st1_0 t) (hstage1_0 ((cfg1.slots t 0).cast nbuf1_0)) _ _)
  isplitl [H]; · iexact H
  iintro H
  isplitl [HΦ]; · iexact HΦ
  isplitl [Howes]; · iexact Howes
  iexact H

/-- The blocks of the grid cover the array. -/
theorem zcovers : (cfg1.win 0).Covers := by decide +kernel

/-- The array ends at zero everywhere. -/
theorem zfinal (c : Dev nD) : (zdat f₀ c).arrAt 0 cfg1.N = fun _ => zeroF :=
  (zdat f₀ c).arrAt_eq_of_cover 0 (fun _ => zeroF) (fun _ _ => rfl) (Pipeline.Window.Covers.cover _ zcovers (Memref.isWhole_whole _))

/-! ## The region -/

/-- The core owing nothing, with no wait recorded above the SparseCore call's levels. -/
def quietTc (c : Dev nD) : sProp 𝕄 :=
  iprop(∃ W, ⌜(K (F := F)).WBelow (SparseCore.T c) W (8 * (inferInstance : SparseCore.Cfg.Blocks 1 1).fst 1)⌝
    ∗ owes (c : Thread nD τ) (0 : CellTallies nD τ sig (HIx 1)) W)

/-- What the proof data says of the core's debts at any point, from the state between operations and back. -/
theorem quiet_iff (c : Dev nD) (t : Fin (cfg1.N + 1)) :
    (quietTc c : sProp 𝕄) = (zdat f₀ c).owesAt none t := by
  refine BI.equiv_iff.mp ⟨?_, ?_⟩
  · show quietTc c ⊢ (zdat f₀ c).owesAt none t
    unfold quietTc Dat.owesAt Pipeline.owesWithin
    iintro ⟨%W, %hW, HO⟩
    iexists W; isplitr; swap; (· iexact HO)
    ipureintro
    exact fun p hp => Or.inl (hW p hp)
  · show (zdat f₀ c).owesAt none t ⊢ quietTc c
    unfold quietTc Dat.owesAt Pipeline.owesWithin
    iintro ⟨%W, %hW, HO⟩
    iexists W; isplitr; swap; (· iexact HO)
    ipureintro
    intro p hp
    rcases hW hp with h | ⟨w, s, rfl⟩
    · exact h
    · exact Nat.zero_le _

/-- The array of the one window, held whole. -/
theorem zarrays (c : Dev nD) (G : (w : Fin cfg1.W) → Buf (Elt F) ((cfg1.win w).arr.view.loc (c : Thread nD τ))) :
    ((zdat f₀ c).arrays G : sProp 𝕄) = (zLoc c ↦{fullShare} G 0) := by
  unfold Dat.arrays
  rw [bigSep_W1, (Memref.isWhole_whole main_v7 : ((cfg1.win 0).arr).IsWhole).set_eq_univ, (zdat f₀ c).share_full fun _ => rfl]

set_option backward.isDefEq.respectTransparency.types false in
/-- The TensorCore's region of @main: the array goes from anything to zero. -/
def zreg : Pipeline.RegionSeg (pcfgs (F := F)) (fun p => (cfgs p).toPCfg_adm) (zdats f₀) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation f₀ c).loose
  hwaits := Pipeline.hwaits_of_owed_zero _ _ _ _ (K (F := F)).L (K (F := F)).lev 0 fun _ _ => rfl
  pre c := iprop((zLoc c ↦{fullShare} f₀ c) ∗ quietTc c)
  post c := iprop((zLoc c ↦{fullShare} fun _ => zeroF) ∗ quietTc c)
  X _ := BI.emp
  Y _ := BI.emp
  Z _ := BI.emp
  hentry c := by
    rw [Pipeline.ownSems0_none, quiet_iff f₀ c 0]
    iintro ⟨⟨Hz, HO⟩, -, -⟩
    imodintro
    isplitl [Hz]
    · rw [show ((zdats f₀ 0 c).arrays ((zdats f₀ 0 c).arrAt · 0) : sProp 𝕄) = _ from zarrays f₀ c _]
      iexact Hz
    isplitr; · unfold Pipeline.prefHeld; rw [show (Finset.univ : Finset (Fin 0)) = ∅ from rfl, BI.bigSep_empty]; iempintro
    isplitl [HO]; · iexact HO
    isplitr <;> iempintro
  hin c := by
    rw [show (zdats f₀ 0 c).Φ 0 = Pipeline.scopedRest spec1 c from rfl]
    iintro ⟨-, -, Hr⟩; iexact Hr
  hout c := by
    rw [Pipeline.ownSems0_none, show (zdats f₀ 0 c).Φ (Fin.last _) = Pipeline.scopedRest spec1 c from rfl]
    iintro Hr
    isplitr; · iempintro
    isplitr; · iempintro
    iexact Hr
  hexit c := by
    rw [show ((zdats f₀ 0 c).arrays ((zdats f₀ 0 c).arrAt · cfg1.N) : sProp 𝕄) = _ from zarrays f₀ c _,
      show (zdats f₀ 0 c).arrAt 0 cfg1.N = _ from zfinal f₀ c, quiet_iff f₀ c (Fin.last _)]
    iintro ⟨Hz, HO, -, -⟩
    imodintro
    isplitl [Hz]; · iexact Hz
    iexact HO

end Cert.Proof.Fall

end
-- ==== Proof.Main.lean ====
/-
  @main on the TensorCore and the run of the whole program: the host's re-layouts of the arguments, the SparseCore
  call, the TensorCore's zero fill, the re-layouts of the results; every array of the TensorCore followed as one
  valuation, so that the run's conclusion names what each of them holds at the end.
-/
module

public import proofs.«01_k».proof.Proof.Region

@[expose] public section

noncomputable section

namespace Cert.Proof.Fall

open Cert.KernelIdeal Cert.KernelIdeal.Gen
open Idealize.ShloMosaic
open Idealize.ShloMosaic.TcCoe Idealize.ShloMosaic.Tactic
open Idealize.ShloMosaic.Rounds
open Idealize.ShloMosaic.StableHlo
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The ghost state at the launch -/

/-- Where the pipeline's rounds sit: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The pipelines of the program, at their (only) parameters. -/
abbrev pipes : (p : Fin 1) → Pipeline.Cfg sig Λ₀ := Pipeline.pin (pcfgs (F := F)) fun p => (cfgs p).toPCfg_adm

/-- The launch's ghost element: the handshakes' rounds, the pipeline's, no counter yet. -/
def u₀ : UU := (initOf (K (F := F)).hsCells (K (F := F)).hsToks,
  (initOf (Pipeline.cells (nD := nD) (τ := τ) (pipes (F := F)) cellOf_inj) (Pipeline.launchToks (nD := nD) (τ := τ) (pipes (F := F)) cellOf_inj), 1))

/-- What the launch deals @main on device `d`: the pipeline's rounds at their start and its tokens. -/
abbrev pipeGhost (d : Dev nD) : sProp 𝕄 :=
  iprop(Pipeline.cellsGhost (pipes (F := F)) EP 0 d ∗ Pipeline.toksInit (pipes (F := F)) EP 0 d)

/-- The launch's element is the handshakes' part and the pipeline's. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What the launch owns funds the handshakes and, on every device, the pipeline. -/
theorem hu₀ (X : Inp F) : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P X).x q thr) := by
  unfold u₀
  iintro Hu
  ihave H := (ownU_split _ _) $$ Hu
  icases H with ⟨HH, HP⟩
  imod (Pipeline.fund_ghost (pipes (F := F)) EP cellOf_inj) $$ HP with ⟨Hc, Ht⟩
  imodintro
  isplitl [HH]; · iexact HH
  isplitl [Hc Ht]
  · rw [bigSep_sep']
    isplitl [Hc]
    · rw [show (fun d : Dev nD => bigSep Finset.univ fun p : Fin 1 => Pipeline.cellsGhost (pipes (F := F)) EP p d)
        = fun d => Pipeline.cellsGhost (pipes (F := F)) EP 0 d from funext fun d => bigSep_W1 _]
      iexact Hc
    · rw [show (fun d : Dev nD => bigSep Finset.univ fun p : Fin 1 => Pipeline.toksInit (pipes (F := F)) EP p d)
        = fun d => Pipeline.toksInit (pipes (F := F)) EP 0 d from funext fun d => bigSep_W1 _]
      iexact Ht
  · rw [show (bigSep Finset.univ fun thr : Thread nD τ => bigSep Finset.univ fun q : Fin 1 => (P X).x q thr) = (iprop(emp) : sProp 𝕄) from by
      exact (bigSep_congr fun _ _ => bigSep_emp_const _).trans (bigSep_emp_const _)]
    iempintro

/-! ## The TensorCore's call, inside the launched program -/

/-- What the zero fill takes and, when its call returns, gives back. -/
abbrev fillIn (f₀ : (d : Dev nD) → Buf (Elt F) (zLoc d)) (d : Dev nD) (Φ : PUnit → sProp 𝕄) : sProp 𝕄 :=
  iprop(levAts (K (F := F)).L (K (F := F)).lev ∗ boundary (T d) ∗ (zLoc d ↦{fullShare} f₀ d) ∗ quietTc d ∗ pipeGhost d
    ∗ ((boundary (T d) ∗ (zLoc d ↦{fullShare} fun _ => zeroF) ∗ quietTc d) -∗ Φ ⟨⟩))

/-- The zero fill as the pipelined program calls it: from the array at anything to the array at zero. -/
theorem region_inner (f₀ : (d : Dev nD) → Buf (Elt F) (zLoc d)) [∀ e, Nonempty (Elt F e)] (d : Dev nD) (Φ : PUnit → sProp 𝕄) :
    fillIn f₀ d Φ ⊢ wp frame (wpE (D (F := F)) 𝒱 (T d) none) Set.univ
      (.op (.customCall (Pipeline.entry 0) ()) fun _ => .ret ⟨⟩) Φ := by
  have h := Pipeline.RegionSeg.wp (pcfgs (F := F)) (fun p => (cfgs p).toPCfg_adm) (zdats f₀) none cellOf_inj EP defs₀ 𝒱₀
    (K (F := F)).L (K (F := F)).lev (zreg f₀) d none (fun _ h => nomatch h) (fun _ => .ret ⟨⟩) Φ
  refine BI.Entails.trans ?_ h
  show fillIn f₀ d Φ ⊢ iprop((iprop(boundary (T d) ∗ ((zLoc d ↦{fullShare} fun _ => zeroF) ∗ quietTc d)) -∗ _) ∗ boundary (T d)
    ∗ ((zLoc d ↦{fullShare} f₀ d) ∗ quietTc d) ∗ _)
  iintro ⟨Hl, Hb, Hz, HO, ⟨Hc, Ht⟩, Hk⟩
  isplitl [Hk]
  · iintro ⟨Hb, Hz, HO⟩
    rw [wp_ret]; imodintro
    iapply Hk
    isplitl [Hb]; · iexact Hb
    isplitl [Hz]; · iexact Hz
    iexact HO
  isplitl [Hb]; · iexact Hb
  isplitl [Hz HO]
  · isplitl [Hz]; · iexact Hz
    iexact HO
  isplitl [Hl]; · iexact Hl
  isplitl [Hc]; · iexact Hc
  iexact Ht

/-- The same inside the launched program, where the call is lifted over the SparseCore layer. -/
theorem region_call (f₀ : (d : Dev nD) → Buf (Elt F) (zLoc d)) [∀ e, Nonempty (Elt F e)] (d : Dev nD) (Φ : PUnit → sProp 𝕄) :
    fillIn f₀ d Φ ⊢ wp frame (wpE ((K (F := F)).defs (D (F := F))) 𝒱 (T d) none) Set.univ
      (Prog.lift (.customCall (SparseCore.inner (Pipeline.entry 0)) ())) Φ := by
  have h := (K (F := F)).wp_liftProg (Name := ℕ) (U := UU) (D (F := F)) 𝒱 (T d) Set.univ none
    (.op (.customCall (Pipeline.entry 0) ()) fun _ => .ret ⟨⟩) Φ
  exact (region_inner f₀ d Φ).trans h

/-- Between the SparseCore call and the end the core owes nothing: its state is that and the rest. -/
theorem tcSt_quiet (d : Dev nD) : ∃ R : sProp 𝕄, ((K (F := F)).tcSt EH d 1 : sProp 𝕄) = iprop(quietTc d ∗ R) := by
  unfold SparseCore.Cfg.tcSt
  rw [(K (F := F)).Otc_end d (le_refl 1)]
  exact ⟨_, rfl⟩

/-! ## The host's operations -/

/-- The points of 128 put back beside their coordinate: `[n, 128, 2]` to `[n, 2, 128]`, -/
abbrev lanesLast : (⟨S8192x128x2, .f32⟩ : BufTy).Contents (Elt F) → (⟨S8192x2x128, .f32⟩ : BufTy).Contents (Elt F) :=
  (transpose S8192x2x128 [0, 2, 1] · transposes_S8192x128x2_S8192x2x128_0_2_1)

/-- and back. -/
abbrev coordLast : (⟨S8192x2x128, .f32⟩ : BufTy).Contents (Elt F) → (⟨S8192x128x2, .f32⟩ : BufTy).Contents (Elt F) :=
  (transpose S8192x128x2 [0, 2, 1] · transposes_S8192x2x128_S8192x128x2_0_2_1)

/-- The arguments laid out for the kernels. -/
def opsIn : List (HloOp τ sig (Elt F)) :=
  [StableHlo.reshape main_arg3 main_v0 (rfl : (.f32 : EltTy) = .f32) shapeCasts_S1048576_S8192x128,
   StableHlo.reshape main_arg1 main_v1 (rfl : (.f32 : EltTy) = .f32) shapeCasts_S1048576x2_S8192x128x2,
   StableHlo.unary main_v1 main_v2 lanesLast,
   StableHlo.reshape main_arg2 main_v3 (rfl : (.f32 : EltTy) = .f32) shapeCasts_S1048576x2_S8192x128x2,
   StableHlo.unary main_v3 main_v4 lanesLast,
   StableHlo.reshape main_v4 main_v5 (rfl : (.f32 : EltTy) = .f32) shapeCasts_S8192x2x128_S16384x128]

/-- The results laid out for the caller. -/
def opsOut : List (HloOp τ sig (Elt F)) :=
  [StableHlo.reshape main_v6_0 main_v8 (rfl : (.f32 : EltTy) = .f32) shapeCasts_S16384x128_S8192x2x128,
   StableHlo.unary main_v8 main_v9 coordLast,
   StableHlo.reshape main_v9 main_v10 (rfl : (.f32 : EltTy) = .f32) shapeCasts_S8192x128x2_S1048576x2,
   StableHlo.unary main_v6_1 main_v11 coordLast,
   StableHlo.reshape main_v11 main_v12 (rfl : (.f32 : EltTy) = .f32) shapeCasts_S8192x128x2_S1048576x2,
   StableHlo.reshape main_v7 main_v13 (rfl : (.f32 : EltTy) = .f32) shapeCasts_S8192x128_S1048576]

/-- A TensorCore reference as a reference of the device. -/
abbrev dref (b : Ref sig .tc) : DevRef τ sig := Proc.devRef .tc b

/-- The TensorCore's arrays. -/
def arrs : Finset (DevRef τ sig) := (StableHlo.tcRefs τ sig).filter fun b => ¬ b.isScoped

omit [FloatOps F] in
/-- An unscoped reference is one of the arrays; so both buffers of an operation of one operand are. -/
theorem pair_arrs (x y : Ref sig .tc) (hx : (dref x).isScoped = false) (hy : (dref y).isScoped = false) :
    ({dref x, dref y} : Finset (DevRef τ sig)) ⊆ arrs := by
  have mem : ∀ z : Ref sig .tc, (dref z).isScoped = false → dref z ∈ arrs := fun z hz =>
    Finset.mem_filter.mpr ⟨Finset.mem_map.mpr ⟨z, Finset.mem_univ _, rfl⟩, by rw [hz]; decide⟩
  intro b hb
  rcases Finset.mem_insert.mp hb with rfl | hb
  · exact mem x hx
  · rw [Finset.mem_singleton.mp hb]; exact mem y hy

/-- The first operations touch the arrays only, -/
theorem opsIn_arrs : ∀ op ∈ (opsIn : List (HloOp τ sig (Elt F))), op.bufs ⊆ arrs :=
  List.forall_mem_cons.2 ⟨pair_arrs main_arg3 main_v0 rfl rfl, List.forall_mem_cons.2 ⟨pair_arrs main_arg1 main_v1 rfl rfl, List.forall_mem_cons.2 ⟨pair_arrs main_v1 main_v2 rfl rfl, List.forall_mem_cons.2 ⟨pair_arrs main_arg2 main_v3 rfl rfl, List.forall_mem_cons.2 ⟨pair_arrs main_v3 main_v4 rfl rfl, List.forall_mem_cons.2 ⟨pair_arrs main_v4 main_v5 rfl rfl, List.forall_mem_nil _⟩⟩⟩⟩⟩⟩

/-- and so do the last. -/
theorem opsOut_arrs : ∀ op ∈ (opsOut : List (HloOp τ sig (Elt F))), op.bufs ⊆ arrs :=
  List.forall_mem_cons.2 ⟨pair_arrs main_v6_0 main_v8 rfl rfl, List.forall_mem_cons.2 ⟨pair_arrs main_v8 main_v9 rfl rfl, List.forall_mem_cons.2 ⟨pair_arrs main_v9 main_v10 rfl rfl, List.forall_mem_cons.2 ⟨pair_arrs main_v6_1 main_v11 rfl rfl, List.forall_mem_cons.2 ⟨pair_arrs main_v11 main_v12 rfl rfl, List.forall_mem_cons.2 ⟨pair_arrs main_v7 main_v13 rfl rfl, List.forall_mem_nil _⟩⟩⟩⟩⟩⟩

/-- None of them leaves anything undetermined. -/
theorem opsIn_fresh : ∀ op ∈ (opsIn : List (HloOp τ sig (Elt F))), op.fresh = ∅ := by
  simp only [opsIn, List.forall_mem_cons]
  exact ⟨rfl, rfl, rfl, rfl, rfl, rfl, List.forall_mem_nil _⟩

/-- None of these either. -/
theorem opsOut_fresh : ∀ op ∈ (opsOut : List (HloOp τ sig (Elt F))), op.fresh = ∅ := by
  simp only [opsOut, List.forall_mem_cons]
  exact ⟨rfl, rfl, rfl, rfl, rfl, rfl, List.forall_mem_nil _⟩

/-- @main: the arguments laid out, the SparseCore call, the zero fill, the results laid out. -/
theorem main_eq (d : Dev nD) : main (F := F) d = (seq opsIn >>= fun _ => ((K (F := F)).run d 0 >>= fun _ =>
    Prog.lift (.customCall (SparseCore.inner (Pipeline.entry 0)) ()) >>= fun _ => (seq opsOut >>= fun _ => pure ⟨⟩))) := by
  rw [seq_bind_seqK, seq_bind_seqK]
  rfl

/-! ## The arrays, followed through the program -/

variable (m : (ℓ : Loc nD τ sig) → Buf (Elt F) ℓ) (ρ : Dev nD → PrngReg)

/-- At the launch, -/
def Vlaunch (d : Dev nD) : Valuation τ sig (Elt F) := fun b => m (d, b)

omit [FloatOps F] in
/-- (the launch hands over the arrays so,) -/
theorem launch_held (d : Dev nD) :
    (unscopedBufs d (fun b => m ((SparseCore.T d).loc b)) : sProp 𝕄) = held (T d) arrs (Vlaunch m d) := by
  unfold unscopedBufs held arrs StableHlo.tcRefs
  rw [Finset.filter_map, bigSep_map]
  rfl

/-- when the SparseCore call starts, -/
def Vcall (d : Dev nD) : Valuation τ sig (Elt F) := after opsIn (Vlaunch m d)
/-- (what the call reads,) -/
def inp : Inp F where
  pos d := Vcall m d (dref main_v2)
  vel d := Vcall m d (dref main_v5)
  dia d := Vcall m d (dref main_v0)
/-- when it returns, -/
def Vback (d : Dev nD) : Valuation τ sig (Elt F) :=
  Function.update (Function.update (Vcall m d) (dref main_v6_0) (dposVal (inp m) d)) (dref main_v6_1) (dvelVal (inp m) d)
/-- when the zero fill returns, -/
def Vfill (d : Dev nD) : Valuation τ sig (Elt F) := Function.update (Vback m d) (dref main_v7) (fun _ => zeroF)
/-- and at the end. -/
def Vend (d : Dev nD) : Valuation τ sig (Elt F) := after opsOut (Vfill m d)

/-- The arrays the SparseCore call reads and writes. -/
def callArrs : Finset (DevRef τ sig) := {dref main_v2, dref main_v5, dref main_v0, dref main_v6_0, dref main_v6_1}

omit [FloatOps F] in
/-- The call's arrays at a valuation, one by one. -/
theorem held_callArrs (d : Dev nD) (V : Valuation τ sig (Elt F)) :
    (held (T d) callArrs V : sProp 𝕄) = iprop((posLoc d ↦{fullShare} V (dref main_v2)) ∗ (velLoc d ↦{fullShare} V (dref main_v5))
      ∗ (diaLoc d ↦{fullShare} V (dref main_v0)) ∗ (dposLoc d ↦{fullShare} V (dref main_v6_0)) ∗ (dvelLoc d ↦{fullShare} V (dref main_v6_1))) := by
  unfold held callArrs
  rw [SparseCore.bigSep_insert' (by decide), SparseCore.bigSep_insert' (by decide), SparseCore.bigSep_insert' (by decide),
    SparseCore.bigSep_insert' (by decide), bigSep_singleton]

/-- Entering the SparseCore call: its operands and results out of the arrays. -/
theorem call_enter (d : Dev nD) :
    (held (T d) arrs (Vcall m d) : sProp 𝕄) ⊢ iprop(held (T d) (arrs \ callArrs) (Vcall m d)
      ∗ opsAt (inp m) d fullShare ∗ (dposLoc d ↦{fullShare} Vcall m d (dref main_v6_0)) ∗ (dvelLoc d ↦{fullShare} Vcall m d (dref main_v6_1))) := by
  rw [held_sub_split (T d) (show callArrs ⊆ arrs by decide), held_callArrs]
  unfold opsAt
  iintro ⟨⟨Hp, Hv, Hd, Ho, Hw⟩, Hr⟩
  isplitl [Hr]; · iexact Hr
  isplitl [Hp Hv Hd]
  · isplitl [Hp]; · iexact Hp
    isplitl [Hv]; · iexact Hv
    iexact Hd
  isplitl [Ho]; · iexact Ho
  iexact Hw

/-- An array the call does not write is after it as before. -/
theorem Vback_of_ne (d : Dev nD) {b : DevRef τ sig} (h0 : b ≠ dref main_v6_0) (h1 : b ≠ dref main_v6_1) :
    Vback m d b = Vcall m d b :=
  (Function.update_of_ne h1 _ _).trans (Function.update_of_ne h0 _ _)

/-- The derivative of the positions after the call, -/
theorem Vback_dpos (d : Dev nD) : Vback m d (dref main_v6_0) = dposVal (inp m) d :=
  (Function.update_of_ne (show dref main_v6_0 ≠ dref main_v6_1 by decide) _ _).trans (Function.update_self _ _ _)

/-- and that of the velocities. -/
theorem Vback_dvel (d : Dev nD) : Vback m d (dref main_v6_1) = dvelVal (inp m) d := Function.update_self _ _ _

/-- Leaving it. -/
theorem call_leave (d : Dev nD) :
    iprop(held (T d) (arrs \ callArrs) (Vcall m d) ∗ opsAt (inp m) d fullShare ∗ (dposLoc d ↦{fullShare} dposVal (inp m) d) ∗ (dvelLoc d ↦{fullShare} dvelVal (inp m) d))
      ⊢ (held (T d) arrs (Vback m d) : sProp 𝕄) := by
  rw [held_sub_split (T d) (show callArrs ⊆ arrs by decide) (Vback m d), held_callArrs, Vback_dpos, Vback_dvel,
    Vback_of_ne m d (b := dref main_v2) (by decide) (by decide), Vback_of_ne m d (b := dref main_v5) (by decide) (by decide),
    Vback_of_ne m d (b := dref main_v0) (by decide) (by decide),
    held_congr (T d) (V := Vback m d) (V' := Vcall m d) fun b hb => Vback_of_ne m d
      (fun h => (Finset.mem_sdiff.mp hb).2 (h ▸ (by decide : dref main_v6_0 ∈ callArrs)))
      (fun h => (Finset.mem_sdiff.mp hb).2 (h ▸ (by decide : dref main_v6_1 ∈ callArrs)))]
  unfold opsAt
  iintro ⟨Hr, ⟨Hp, Hv, Hd⟩, Ho, Hw⟩
  isplitr [Hr]
  · isplitl [Hp]; · iexact Hp
    isplitl [Hv]; · iexact Hv
    isplitl [Hd]; · iexact Hd
    isplitl [Ho]; · iexact Ho
    iexact Hw
  · iexact Hr

/-- The zero fill's array and the others. -/
theorem fill_split (d : Dev nD) (V : Valuation τ sig (Elt F)) :
    (held (T d) arrs V : sProp 𝕄) = iprop((zLoc d ↦{fullShare} V (dref main_v7)) ∗ held (T d) (arrs \ {dref main_v7}) V) := by
  rw [held_sub_split (T d) (show {dref main_v7} ⊆ arrs by decide)]
  unfold held; rw [bigSep_singleton]

/-- Leaving the zero fill. -/
theorem fill_leave (d : Dev nD) :
    iprop((zLoc d ↦{fullShare} fun _ => zeroF) ∗ held (T d) (arrs \ {dref main_v7}) (Vback m d)) ⊢ (held (T d) arrs (Vfill m d) : sProp 𝕄) := by
  rw [fill_split d (Vfill m d), show Vfill m d (dref main_v7) = fun _ => zeroF from Function.update_self _ _ _,
    held_congr (T d) (V := Vfill m d) (V' := Vback m d) fun b hb => Function.update_of_ne
      (fun h => (Finset.mem_sdiff.mp hb).2 (Finset.mem_singleton.mpr h)) _ _]

/-! ## @main -/

set_option maxHeartbeats 2000000 in
/-- @main on a device's TensorCore: from the launch's arrays to every array at its final contents. -/
theorem hmain [∀ e, Nonempty (Elt F e)] (κ : GSem nD τ sig → ℕ) (d : Dev nD) :
    iprop((K (F := F)).ctx EH (P (inp m)) κ ∗ (K (F := F)).tcSt EH d 0 ∗ (K (F := F)).tcRes m ρ d ∗ pipeGhost (F := F) d)
      ⊢ wp frame (wpE ((K (F := F)).defs (D (F := F))) 𝒱 (T d) none) Set.univ (main d)
          fun _ => iprop((K (F := F)).tcSt EH d 1 ∗ held (T d) arrs (Vend m d) ∗ (K (F := F)).tcEnd d) := by
  obtain ⟨R, hR⟩ := tcSt_quiet (F := F) d
  unfold SparseCore.Cfg.tcRes SparseCore.Cfg.tcEnd
  rw [launch_held]
  rw [main_eq]
  iintro ⟨#Hctx, Hst, ⟨Hb, Hh, Hts, -⟩, HG⟩
  -- the arguments laid out
  iapply (wp_seq 𝒱 none Set.univ d arrs _ opsIn opsIn_arrs opsIn_fresh (Vlaunch m d)) $$ [Hb Hh]
  · isplitl [Hb] <;> iassumption
  iintro ⟨Hb, Hh⟩
  -- the SparseCore call
  ihave Hh := (show (held (d.tc : Thread nD τ) arrs (after opsIn (Vlaunch m d)) : sProp 𝕄) ⊢ _ from call_enter m d) $$ Hh
  icases Hh with ⟨Hrest, Hops, Ho, Hw⟩
  ihave H := (deal (inp m) d _ _) $$ [Hops Ho Hw]
  · isplitl [Hops]; · iexact Hops
    isplitl [Ho] <;> iassumption
  icases H with ⟨Hkeep, Hgo⟩
  rw [wp_bind]
  iapply ((K (F := F)).wp_run (D (F := F)) 𝒱 (EH := EH) (P := P (inp m)) κ d 0) $$ [Hst Hgo Hb Hrest Hkeep Hts HG]
  isplitr; · iexact Hctx
  isplitl [Hst]; · iexact Hst
  isplitl [Hgo]; · iexact Hgo
  iintro ⟨Hst, Hdn⟩
  ihave H := (gather (inp m) d) $$ [Hkeep Hdn]
  · isplitl [Hkeep] <;> iassumption
  ihave Hh := (call_leave m d) $$ [Hrest H]
  · isplitl [Hrest] <;> iassumption
  -- the zero fill
  ihave Hst := (Entails.of_eq (show (K (F := F)).tcSt EH d ((0 : Fin 1).val + 1) = iprop(quietTc d ∗ R) from hR)) $$ Hst
  icases Hst with ⟨HO, HR⟩
  ihave Hh := (Entails.of_eq (fill_split d (Vback m d))) $$ Hh
  icases Hh with ⟨Hz, Hrest⟩
  ihave Hl := ((K (F := F)).ctx_levAts κ) $$ Hctx
  rw [wp_bind]
  iapply (region_call (fun d => Vback m d (dref main_v7)) d _)
  isplitl [Hl]; · iexact Hl
  isplitl [Hb]; · iexact Hb
  isplitl [Hz]; · iexact Hz
  isplitl [HO]; · iexact HO
  isplitl [HG]; · iexact HG
  iintro ⟨Hb, Hz, HO⟩
  ihave Hh := (fill_leave m d) $$ [Hz Hrest]
  · isplitl [Hz] <;> iassumption
  -- the results laid out
  iapply (wp_seq 𝒱 none Set.univ d arrs _ opsOut opsOut_arrs opsOut_fresh (Vfill m d)) $$ [Hb Hh]
  · isplitl [Hb] <;> iassumption
  iintro ⟨Hb, Hh⟩
  rw [wp_pure]; imodintro
  isplitl [HO HR]
  · iapply (Entails.of_eq hR.symm)
    isplitl [HO] <;> iassumption
  isplitl [Hh]; · iexact Hh
  isplitl [Hb] <;> iassumption

/-! ## The run -/

/-- What the run leaves in memory: every array of the TensorCore at its final contents. -/
def fq (d : Dev nD) (s' : Phys nD τ sig (Elt F)) : Prop := ∀ b ∈ arrs, s'.mem.mem (d, b) = Vend m d b

/-- Holding an array is agreeing with the memory about it. -/
theorem hfin (d : Dev nD) (s' : Phys nD τ sig (Elt F)) : iprop(held (T d) arrs (Vend m d) ∗ SI s') ⊢ (⌜fq m d s'⌝ : sProp 𝕄) := by
  iintro ⟨Hh, HSI⟩
  iapply (SI_pointsTo_bufs_agree (st := s') (c := d) (qs := fun _ => fullShare) (F := Vend m d) arrs)
  isplitl [HSI]; · iexact HSI
  unfold held; iexact Hh

/-- What holds when the program has ended: every array at its final contents, every semaphore at zero. -/
def QC : PUnit × MemSt nD τ sig (Elt F) → Prop :=
  fun r => (∀ d : Dev nD, ∀ b ∈ arrs, r.2.mem (d, b) = Vend m d b) ∧ r.2.sem = fun _ => 0

/-- The whole program's run, from any memory. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P (inp m)) (A := ∅) facts v₀
    (fun q hq => match q with | 0 => nomatch hq)
    (fun q _ => match q with | 0 => tileObl (inp m))
    (fun q _ => match q with | 0 => SparseCore.Cfg.VecSplit.of_plain (vecSplit (inp m)))
    m ρ main (fun d => pipeGhost (F := F) d) (fun d => held (T d) arrs (Vend m d)) (u₀ (F := F)) (sep_elim_left.trans (hu₀ (inp m)))
    (hmain m ρ) (fq m) (hfin m) (QC m) (fun _ h hz => ⟨h, hz⟩)

end Cert.Proof.Fall

end
-- ==== Proof.Value.lean ====
/-
  What the arrays hold when the program has ended, in terms of the arguments: each result at each point and coordinate.
-/
module

public import proofs.«01_k».proof.Proof.Main
public import Idealize.ShloMosaic.Lib.Pipeline.Value

@[expose] public section

noncomputable section

namespace Cert.Proof.Fall

open Cert.KernelIdeal Cert.KernelIdeal.Gen
open Idealize.ShloMosaic Idealize.ShloMosaic.StableHlo
open Idealize.SL.Sem

variable {F : FTy → Type} [FloatOps F]

/-! ## The formulas -/

/-- The index of a one-axis shape at its coordinate. -/
def at1 {n : ℕ} (a : Fin n) : (⟨1, ![n]⟩ : Shape).Idx := fun
  | 0 => a

/-- The derivative of the positions: the velocity, or zero where the point's height is at most half its diameter. -/
def dposFn (pos vel : S1048576x2.Idx → F .f32) (dia : S1048576.Idx → F .f32) (j : S1048576x2.Idx) : F .f32 :=
  gated (pos (at2 (j 0) (1 : Fin 2))) (dia (at1 (j 0))) (vel j)

/-- The derivative of the velocities: zero across; downwards the acceleration, or zero on the ground. -/
def dvelFn (pos : S1048576x2.Idx → F .f32) (dia : S1048576.Idx → F .f32) (j : S1048576x2.Idx) : F .f32 :=
  if (j 1).val = 0 then zeroF else gated (pos (at2 (j 0) (1 : Fin 2))) (dia (at1 (j 0))) fallF

/-! ## Points, their blocks and their lanes -/

/-- A point's block of 128, -/
def blockOf (j : S1048576x2.Idx) : Fin 8192 := ⟨(j 0).val / 128, by have h : (j 0).val < 1048576 := (j 0).isLt; omega⟩
/-- and its lane there. -/
def laneOf (j : S1048576x2.Idx) : Fin 128 := ⟨(j 0).val % 128, Nat.mod_lt _ (by norm_num)⟩

omit [FloatOps F] in
/-- A point array in blocks, read at a block and a lane. -/
theorem blocks_apply (x : S1048576x2.Idx → F .f32) (j k : S1048576x2.Idx) (hk : (k 0).val = (j 0).val) :
    shapeCast S8192x128x2 x shapeCasts_S1048576x2_S8192x128x2 (at3 (blockOf j) (laneOf j) (k 1)) = x k := by
  refine shapeCast_apply x _ _ k ?_
  rw [Shape.rowMajor_val_two, Shape.rowMajor_val_three]
  show (k 0).val * 2 + (k 1).val = ((j 0).val / 128 * 128 + (j 0).val % 128) * 2 + (k 1).val
  omega

omit [FloatOps F] in
/-- The blocks with the coordinate before the lane. -/
theorem lanesLast_apply (x : S8192x128x2.Idx → F .f32) (a : Fin 8192) (b : Fin 2) (c : Fin 128) :
    lanesLast x (at3 a b c) = x (at3 a c b) :=
  transpose_apply _ x _ _ _ fun e => by
    match e with
    | 0 => rfl
    | 1 => rfl
    | 2 => rfl

omit [FloatOps F] in
/-- A blocked array with the coordinate before the lane, given back as a point array. -/
theorem points_apply (x : S8192x2x128.Idx → F .f32) (j : S1048576x2.Idx) :
    shapeCast S1048576x2 (coordLast x) shapeCasts_S8192x128x2_S1048576x2 j = x (at3 (blockOf j) (j 1) (laneOf j)) := by
  rw [shapeCast_apply (coordLast x) _ j (at3 (blockOf j) (laneOf j) (j 1)) (by
    rw [Shape.rowMajor_val_two, Shape.rowMajor_val_three]
    show ((j 0).val / 128 * 128 + (j 0).val % 128) * 2 + (j 1).val = (j 0).val * 2 + (j 1).val
    omega)]
  exact transpose_apply _ x _ _ _ fun e => by
    match e with
    | 0 => rfl
    | 1 => rfl
    | 2 => rfl

/-- The row of a point's coordinate where the blocks' coordinates are rows. -/
def rowOf (j : S1048576x2.Idx) : S16384x128.Idx :=
  at2 ⟨(j 0).val / 128 * 2 + (j 1).val, by
    have h : (j 0).val < 1048576 := (j 0).isLt
    have h' : (j 1).val < 2 := (j 1).isLt
    omega⟩ (laneOf j)

omit [FloatOps F] in
/-- Rows to blocks. -/
theorem unrows_apply (x : S16384x128.Idx → F .f32) (j : S1048576x2.Idx) :
    shapeCast S8192x2x128 x shapeCasts_S16384x128_S8192x2x128 (at3 (blockOf j) (j 1) (laneOf j)) = x (rowOf j) := by
  refine shapeCast_apply x _ _ _ ?_
  rw [Shape.rowMajor_val_two, Shape.rowMajor_val_three]
  rfl

omit [FloatOps F] in
/-- Blocks to rows. -/
theorem rows_apply (x : S8192x2x128.Idx → F .f32) (j : S1048576x2.Idx) :
    shapeCast S16384x128 x shapeCasts_S8192x2x128_S16384x128 (rowOf j) = x (at3 (blockOf j) (j 1) (laneOf j)) := by
  refine shapeCast_apply x _ _ _ ?_
  rw [Shape.rowMajor_val_two, Shape.rowMajor_val_three]
  rfl

omit [FloatOps F] in
/-- The diameters in blocks. -/
theorem diaBlocks_apply (x : S1048576.Idx → F .f32) (j : S1048576x2.Idx) :
    shapeCast S8192x128 x shapeCasts_S1048576_S8192x128 (at2 (blockOf j) (laneOf j)) = x (at1 (j 0)) := by
  refine shapeCast_apply x _ _ _ ?_
  rw [Shape.rowMajor_val_two, Shape.rowMajor_val_one]
  show (j 0).val = (j 0).val / 128 * 128 + (j 0).val % 128
  omega

/-- A row's place among the heights is its point's block and lane. -/
theorem halfBig_row (j : S1048576x2.Idx) : halfBig (rowOf j) = at2 (blockOf j) (laneOf j) := by
  have h' : (j 1).val < 2 := (j 1).isLt
  refine ext2 ?_ rfl
  show ((j 0).val / 128 * 2 + (j 1).val) / 2 = (j 0).val / 128
  omega

omit [FloatOps F] in
/-- A point's height among the blocks. -/
theorem height_apply (x : S1048576x2.Idx → F .f32) (j : S1048576x2.Idx) :
    lanesLast (shapeCast S8192x128x2 x shapeCasts_S1048576x2_S8192x128x2) (at3 (blockOf j) (1 : Fin 2) (laneOf j)) = x (at2 (j 0) (1 : Fin 2)) :=
  (lanesLast_apply _ _ _ _).trans (blocks_apply x j (at2 (j 0) (1 : Fin 2)) rfl)

/-- The first result's formula, of the arrays as the call has them. -/
theorem dpos_points (pos vel : S1048576x2.Idx → F .f32) (dia : S1048576.Idx → F .f32) :
    shapeCast S1048576x2 (coordLast (shapeCast S8192x2x128
        (dposOut (lanesLast (shapeCast S8192x128x2 pos shapeCasts_S1048576x2_S8192x128x2))
          (shapeCast S16384x128 (lanesLast (shapeCast S8192x128x2 vel shapeCasts_S1048576x2_S8192x128x2)) shapeCasts_S8192x2x128_S16384x128)
          (shapeCast S8192x128 dia shapeCasts_S1048576_S8192x128))
        shapeCasts_S16384x128_S8192x2x128)) shapeCasts_S8192x128x2_S1048576x2 = dposFn pos vel dia := by
  funext j
  rw [points_apply, unrows_apply]
  unfold dposOut
  rw [halfBig_row]
  exact congr (congr (congrArg gated (height_apply pos j)) (diaBlocks_apply dia j))
    ((rows_apply _ j).trans ((lanesLast_apply _ _ _ _).trans (blocks_apply vel j j rfl)))

/-- The second's. -/
theorem dvel_points (pos : S1048576x2.Idx → F .f32) (dia : S1048576.Idx → F .f32) :
    shapeCast S1048576x2 (coordLast (dvelOut (lanesLast (shapeCast S8192x128x2 pos shapeCasts_S1048576x2_S8192x128x2))
      (shapeCast S8192x128 dia shapeCasts_S1048576_S8192x128))) shapeCasts_S8192x128x2_S1048576x2 = dvelFn pos dia := by
  funext j
  rw [points_apply]
  unfold dvelOut dvelFn
  show (if (j 1).val = 0 then zeroF else gated (lanesLast _ (at3 (blockOf j) (j 1) (laneOf j))) (shapeCast S8192x128 dia _ (at2 (blockOf j) (laneOf j))) fallF) = _
  by_cases h : (j 1).val = 0
  · rw [if_pos h, if_pos h]
  have h1 : j 1 = (1 : Fin 2) := by
    have h' : (j 1).val < 2 := (j 1).isLt
    exact Fin.ext (show (j 1).val = 1 by omega)
  rw [if_neg h, if_neg h, h1]
  exact congr (congr (congrArg gated (height_apply pos j)) (diaBlocks_apply dia j)) rfl

/-! ## The arrays at the end -/

variable (m : (ℓ : Loc nD τ sig) → Buf (Elt F) ℓ)

/-- The blocks of positions, -/
theorem inp_pos (d : Dev nD) : (inp m).pos d = lanesLast (shapeCast S8192x128x2 (m (d, dref main_arg1)) shapeCasts_S1048576x2_S8192x128x2) := by
  show after opsIn (Vlaunch m d) (dref main_v2) = _
  unfold opsIn
  after_results
  rfl

/-- the rows of velocities, -/
theorem inp_vel (d : Dev nD) : (inp m).vel d = shapeCast S16384x128 (lanesLast (shapeCast S8192x128x2 (m (d, dref main_arg2)) shapeCasts_S1048576x2_S8192x128x2)) shapeCasts_S8192x2x128_S16384x128 := by
  show after opsIn (Vlaunch m d) (dref main_v5) = _
  unfold opsIn
  after_results
  rfl

/-- and the blocks of diameters. -/
theorem inp_dia (d : Dev nD) : (inp m).dia d = shapeCast S8192x128 (m (d, dref main_arg3)) shapeCasts_S1048576_S8192x128 := by
  show after opsIn (Vlaunch m d) (dref main_v0) = _
  unfold opsIn
  after_results
  rfl

/-- The derivative of the positions at the end, -/
theorem end_dpos (d : Dev nD) : Vend m d (dref main_v10) = dposFn (m (d, dref main_arg1)) (m (d, dref main_arg2)) (m (d, dref main_arg3)) := by
  have h : Vend m d (dref main_v10) = shapeCast S1048576x2 (coordLast (shapeCast S8192x2x128 (Vfill m d (dref main_v6_0)) shapeCasts_S16384x128_S8192x2x128))
      shapeCasts_S8192x128x2_S1048576x2 := by
    unfold Vend opsOut
    after_results
    rfl
  rw [h, show Vfill m d (dref main_v6_0) = dposVal (inp m) d from (Function.update_of_ne (by decide) _ _).trans (Vback_dpos m d)]
  unfold dposVal
  rw [inp_pos, inp_vel, inp_dia]
  exact dpos_points _ _ _

/-- that of the velocities, -/
theorem end_dvel (d : Dev nD) : Vend m d (dref main_v12) = dvelFn (m (d, dref main_arg1)) (m (d, dref main_arg3)) := by
  have h : Vend m d (dref main_v12) = shapeCast S1048576x2 (coordLast (Vfill m d (dref main_v6_1))) shapeCasts_S8192x128x2_S1048576x2 := by
    unfold Vend opsOut
    after_results
    rfl
  rw [h, show Vfill m d (dref main_v6_1) = dvelVal (inp m) d from (Function.update_of_ne (by decide) _ _).trans (Vback_dvel m d)]
  unfold dvelVal
  rw [inp_pos, inp_dia]
  exact dvel_points _ _

/-- and that of the diameters. -/
theorem end_ddia (d : Dev nD) : Vend m d (dref main_v13) = fun _ => zeroF := by
  have h : Vend m d (dref main_v13) = shapeCast S1048576 (Vfill m d (dref main_v7)) shapeCasts_S8192x128_S1048576 := by
    unfold Vend opsOut
    after_results
    rfl
  rw [h, show Vfill m d (dref main_v7) = fun _ => zeroF from Function.update_self _ _ _]
  rfl

/-- The arguments end as they began. -/
theorem end_arg (d : Dev nD) (r : Ref sig .tc) (hr : r ∈ [main_arg0, main_arg1, main_arg2, main_arg3]) : Vend m d (dref r) = m (d, dref r) := by
  have hr' : ∀ r ∈ [main_arg0, main_arg1, main_arg2, main_arg3], (dref r ≠ dref main_v6_0 ∧ dref r ≠ dref main_v6_1 ∧ dref r ≠ dref main_v7)
      ∧ r ∉ [main_v8, main_v9, main_v10, main_v11, main_v12, main_v13] ∧ r ∉ [main_v0, main_v1, main_v2, main_v3, main_v4, main_v5] := by decide
  obtain ⟨hne, hout, hin⟩ := hr' r hr
  have e1 : Vend m d (dref r) = Vfill m d (dref r) := after_of_writes_sub opsOut _ (forall_writes_sub_of_map rfl) hout
  have e2 : Vcall m d (dref r) = m (d, dref r) := after_of_writes_sub opsIn _ (forall_writes_sub_of_map rfl) hin
  rw [e1, ← e2]
  exact (Function.update_of_ne hne.2.2 _ _).trans (Vback_of_ne m d hne.1 hne.2.1)

end Cert.Proof.Fall

end
-- ==== Proof.Ref.lean ====
/-
  The reference's results: its composed terms, read at a point and a coordinate, are the formulas the kernel's results are.
-/
module

public import proofs.«01_k».proof.Proof.Value
public import proofs.«01_k».proof.Proof.Gen.ReferenceIdeal.Run
public import Idealize.ShloMosaic.Lib.Routing.OpsOne

@[expose] public section

noncomputable section

namespace Cert.Proof.Fall.Ref

open Cert.ReferenceIdeal Cert.ReferenceIdeal.Gen
open Idealize.ShloMosaic
open Idealize.SL.Sem

variable {F : FTy → Type} [FloatOps F]

/-- Where the points lie on the ground, for each coordinate: the height at most half the diameter. -/
abbrev ground (pos : S1048576x2.Idx → F .f32) (dia : S1048576.Idx → F .f32) : S1048576x2.Idx → BitVec 1 :=
  broadcastInDim S1048576x2 ![0, 1] bcast_S1048576x1_S1048576x2_0_1 (broadcastInDim S1048576x1 ![0] bcast_S1048576_S1048576x1_0
    (cmpf .ole (shapeCast S1048576 (extractStridedSlice S1048576x1 ![0, 1] pos slices_S1048576x2_S1048576x1_0_1) shapeCasts_S1048576x1_S1048576)
      (mulf (broadcastInDim S1048576 ![] bcast_S_S1048576 (constant S_ .f32 0x3F000000#32)) dia)))

/-- Zero at every point and coordinate. -/
abbrev zeros : S1048576x2.Idx → F .f32 := broadcastInDim S1048576x2 ![] bcast_S_S1048576x2 (constant S_ .f32 0x00000000#32)

/-- The acceleration of every point: zero, with the fall written down the second column. -/
abbrev accel : S1048576x2.Idx → F .f32 :=
  Host.scatter scatter_S1048576x2_S1_S1048576_0_1_1_0 (fun _ b => b) zeros (broadcastInDim S1 ![] bcast_S_S1 (constantI S_ 32 1#32))
    (broadcastInDim S1048576 ![] bcast_S_S1048576 (constant S_ .f32 0xC1A00000#32))

/-- The heights as a vector. -/
theorem heights_apply (pos : S1048576x2.Idx → F .f32) (p : Fin 1048576) :
    shapeCast S1048576 (extractStridedSlice S1048576x1 ![0, 1] pos slices_S1048576x2_S1048576x1_0_1) shapeCasts_S1048576x1_S1048576 (at1 p)
      = pos (at2 p (1 : Fin 2)) := by
  rw [shapeCast_apply _ _ (at1 p) (at2 p (0 : Fin 1)) (by
    rw [Shape.rowMajor_val_two, Shape.rowMajor_val_one]
    show p.val * 1 + 0 = p.val
    omega)]
  refine congrArg pos (ext2 ?_ ?_)
  · show 0 + p.val = p.val
    omega
  · rfl

/-- The test at a point and a coordinate. -/
theorem ground_apply (pos : S1048576x2.Idx → F .f32) (dia : S1048576.Idx → F .f32) (j : S1048576x2.Idx) :
    ground pos dia j = FloatOps.cmpf .ole (pos (at2 (j 0) (1 : Fin 2))) (FloatOps.mulf halfF (dia (at1 (j 0)))) := by
  refine (broadcastInDim_apply _ _ _ j (at2 (j 0) (0 : Fin 1)) fun a => ?_).trans ?_
  · match a with
    | 0 => rfl
    | 1 => rfl
  refine (broadcastInDim_apply _ _ _ (at2 (j 0) (0 : Fin 1)) (at1 (j 0)) fun a => ?_).trans ?_
  · match a with
    | 0 => rfl
  exact congrArg (fun h => FloatOps.cmpf .ole h (FloatOps.mulf halfF (dia (at1 (j 0))))) (heights_apply pos (j 0))

/-- The acceleration at a point and a coordinate: the fall in the second column, zero in the first. -/
theorem accel_apply (j : S1048576x2.Idx) : (accel j : F .f32) = if (j 1).val = 0 then zeroF else fallF := by
  have hcol : ∀ (k : S1048576.Idx) (w : Fin 1048576) (e : Fin 2),
      scatter_S1048576x2_S1_S1048576_0_1_1_0.resultIdx? k (broadcastInDim S1 ![] bcast_S_S1 (constantI S_ 32 1#32)) = some (ValueIdx.ix2 w e)
        ↔ k 0 = w ∧ e = 1 := fun k w e => by
    rw [ValueIdx.eq_ix1 k]
    exact Routing.lands_col scatter_S1048576x2_S1_S1048576_0_1_1_0 rfl rfl _ (1 : Fin 2) rfl _ w e
  rw [ValueIdx.eq_ix2 j]
  by_cases h : (j 1).val = 0
  · rw [if_pos h]
    exact Routing.scatter_set_miss _ _ _ _ _ fun k hk => by
      have h1 : (j 1).val = 1 := congrArg Fin.val ((hcol k _ _).1 hk).2
      omega
  · rw [if_neg h]
    exact Routing.scatter_set_hit _ _ _ _ _ _ (fun _ _ => rfl) (ValueIdx.ix1 (j 0)) ((hcol _ _ _).2 ⟨rfl, Fin.ext (by
      have h' : (j 1).val < 2 := (j 1).isLt
      show (j 1).val = 1
      omega)⟩)

/-- The reference's derivative of the positions is the formula. -/
theorem dpos_eq (pos vel : S1048576x2.Idx → F .f32) (dia : S1048576.Idx → F .f32) :
    select (ground pos dia) zeros vel = dposFn pos vel dia := by
  funext j
  show Scalar.select (ground pos dia j) zeroF (vel j) = _
  rw [ground_apply]
  rfl

/-- Its derivative of the velocities is the formula. -/
theorem dvel_eq (pos : S1048576x2.Idx → F .f32) (dia : S1048576.Idx → F .f32) :
    select (ground pos dia) zeros accel = dvelFn pos dia := by
  funext j
  show Scalar.select (ground pos dia j) zeroF (accel j) = _
  rw [ground_apply, accel_apply]
  unfold dvelFn
  by_cases h : (j 1).val = 0
  · rw [if_pos h, if_pos h]
    exact ite_self _
  · rw [if_neg h, if_neg h]
    rfl

/-- The reference's run: each result the formula of the arguments, the arguments unchanged, and every semaphore at zero. -/
theorem run_main (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_v10) = dposFn (m ((c.tc : Thread nD τ).loc main_arg1)) (m ((c.tc : Thread nD τ).loc main_arg2)) (m ((c.tc : Thread nD τ).loc main_arg3))
      ∧ r.2.mem ((c.tc : Thread nD τ).loc main_v12) = dvelFn (m ((c.tc : Thread nD τ).loc main_arg1)) (m ((c.tc : Thread nD τ).loc main_arg3))
      ∧ r.2.mem ((c.tc : Thread nD τ).loc main_v13) = (fun _ => zeroF)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c).1.trans (dpos_eq _ _ _), (h c).2.1.trans (dvel_eq _ _), (h c).2.2.1.trans rfl, (h c).2.2.2⟩,
    sem_eq_zero_of_no_sems (by decide) r.2⟩) (Value.run m ρ)

end Cert.Proof.Fall.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Ref
public import Idealize.ShloMosaic.Adequacy
public import Idealize.ShloMosaic.Init

@[expose] public section

noncomputable section

namespace Cert.Proof

open Idealize.ShloMosaic Idealize.SL.Sem

/-- A TensorCore array at the end of the run, from the run's conclusion. -/
theorem read_end {F : FTy → Type} [FloatOps F] {m : (ℓ : Loc KernelIdeal.nD KernelIdeal.τ KernelIdeal.sig) → Buf (Elt F) ℓ}
    {r : PUnit × MemSt KernelIdeal.nD KernelIdeal.τ KernelIdeal.sig (Elt F)} (h : Fall.QC m r) (c : Dev KernelIdeal.nD) (b : Ref KernelIdeal.sig .tc)
    (hb : Fall.dref b ∈ Fall.arrs) : r.2.mem ((c.tc : Thread KernelIdeal.nD KernelIdeal.τ).loc b) = Fall.Vend m c (Fall.dref b) :=
  h.1 c (Fall.dref b) hb

/-- The kernel's arguments end as they began. -/
theorem args_end {F : FTy → Type} [FloatOps F] {m : (ℓ : Loc KernelIdeal.nD KernelIdeal.τ KernelIdeal.sig) → Buf (Elt F) ℓ}
    {r : PUnit × MemSt KernelIdeal.nD KernelIdeal.τ KernelIdeal.sig (Elt F)} (h : Fall.QC m r) (c : Dev KernelIdeal.nD) :
    r.2.mem ((c.tc : Thread KernelIdeal.nD KernelIdeal.τ).loc KernelIdeal.main_arg0) = m ((c.tc : Thread KernelIdeal.nD KernelIdeal.τ).loc KernelIdeal.main_arg0)
    ∧ r.2.mem ((c.tc : Thread KernelIdeal.nD KernelIdeal.τ).loc KernelIdeal.main_arg1) = m ((c.tc : Thread KernelIdeal.nD KernelIdeal.τ).loc KernelIdeal.main_arg1)
    ∧ r.2.mem ((c.tc : Thread KernelIdeal.nD KernelIdeal.τ).loc KernelIdeal.main_arg2) = m ((c.tc : Thread KernelIdeal.nD KernelIdeal.τ).loc KernelIdeal.main_arg2)
    ∧ r.2.mem ((c.tc : Thread KernelIdeal.nD KernelIdeal.τ).loc KernelIdeal.main_arg3) = m ((c.tc : Thread KernelIdeal.nD KernelIdeal.τ).loc KernelIdeal.main_arg3) :=
  ⟨(read_end h c _ (by decide)).trans (Fall.end_arg m c _ (by decide)), (read_end h c _ (by decide)).trans (Fall.end_arg m c _ (by decide)),
    (read_end h c _ (by decide)).trans (Fall.end_arg m c _ (by decide)), (read_end h c _ (by decide)).trans (Fall.end_arg m c _ (by decide))⟩

section

attribute [local instance] Cert.Kernel.Gen.facts

/-- The kernel's bodies are the same in both readings of its text, label by label; -/
theorem bodies_eq {F : FTy → Type} [FloatOps F] : Kernel.defs₀ (F := F) = KernelIdeal.defs₀ (F := F) := by
  funext p ℓ a
  match p, ℓ, a with
  | .scVector _ _, 0, _ => rfl
  | .scVector _ _, 1, _ => rfl
  | .scScalar _, 0, _ => rfl
  | .scScalar _, 1, _ => rfl
  | .tc, 0, _ => rfl
  | .tc, 1, (_, _) => rfl

/-- so the whole table is. -/
theorem table_eq {F : FTy → Type} [FloatOps F] : Kernel.defs (F := F) = KernelIdeal.defs (F := F) :=
  congrArg (fun D => (KernelIdeal.sc (F := F)).defs (Pipeline.defs KernelIdeal.pcfgs D)) bodies_eq

/-- The kernel over machine floats runs, leaves its arguments, and ends with every semaphore at zero. -/
theorem frame_kernel : Cert.quiescent_Kernel := fun m ρ _ => by
  rw [table_eq]
  have h := (θ_run Cert.KernelIdeal.defs _ _).mono (fun _ h => And.intro (fun c => args_end h c) h.2) (Fall.run_main (F := Bits) m ρ)
  exact h

end

/-- The same over exact floats. -/
theorem frame_ideal : Cert.quiescent_KernelIdeal := fun m ρ _ =>
  (θ_run Cert.KernelIdeal.defs _ _).mono (fun _ h => ⟨fun c => args_end h c, h.2⟩) (Fall.run_main (F := Ideal) m ρ)

/-- The reference runs, leaves its arguments, and ends with every semaphore at zero. -/
theorem frame_reference : Cert.quiescent_ReferenceIdeal := fun m ρ _ =>
  (θ_run Cert.ReferenceIdeal.defs _ _).mono (fun _ h => ⟨fun c => (h.1 c).2.2.2, h.2⟩) (Fall.Ref.run_main (F := Ideal) m ρ)

/-- Over exact floats the kernel and the reference end with the same three results: both are the formulas of the arguments. -/
theorem same_results : Cert.algebraic_KernelIdeal_ReferenceIdeal := fun m ρ m' ρ' _ hm =>
  ⟨fun c => Fall.Vend m c (Fall.dref KernelIdeal.main_v10), fun c => Fall.Vend m c (Fall.dref KernelIdeal.main_v12),
    fun c => Fall.Vend m c (Fall.dref KernelIdeal.main_v13),
    (θ_run Cert.KernelIdeal.defs _ _).mono (fun _ h c =>
      ⟨read_end h c _ (by decide), read_end h c _ (by decide), read_end h c _ (by decide), args_end h c⟩) (Fall.run_main (F := Ideal) m ρ),
    (θ_run Cert.ReferenceIdeal.defs _ _).mono (fun r h c => by
      obtain ⟨h10, h12, h13, ha⟩ := h.1 c
      obtain ⟨-, e1, e2, e3⟩ := hm c
      rw [e1, e2, e3] at h10
      rw [e1, e3] at h12
      exact ⟨h10.trans (Fall.end_dpos m c).symm, h12.trans (Fall.end_dvel m c).symm, h13.trans (Fall.end_ddia m c).symm, ha⟩)
      (Fall.Ref.run_main (F := Ideal) m' ρ')⟩

theorem claim : Cert.Claim := ⟨Cert.Kernel.Gen.facts, Cert.KernelIdeal.Gen.facts, Cert.ReferenceIdeal.Gen.facts,
  frame_kernel, frame_ideal, frame_reference, trivial, same_results⟩

end Cert.Proof

end
